-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x128 : Shape := ⟨2, ![4096, 128]⟩
abbrev S128x128 : Shape := ⟨2, ![128, 128]⟩
abbrev S100000x128 : Shape := ⟨2, ![100000, 128]⟩
abbrev S100000 : Shape := ⟨1, ![100000]⟩
abbrev S_ : Shape := ⟨0, ![]⟩

class Facts : Prop where
  bcast_S_S4096x128 : S_.BroadcastsInDim S4096x128 (![] : Fin 0 → Fin S4096x128.rank)
  bcast_S_S128x128 : S_.BroadcastsInDim S128x128 (![] : Fin 0 → Fin S128x128.rank)
  bcast_S_S100000x128 : S_.BroadcastsInDim S100000x128 (![] : Fin 0 → Fin S100000x128.rank)

variable [Facts]

def fn {F : FTy → Type} [FloatOps F] (main_arg0 : FVec F S4096x128 .f32) (main_arg1 : FVec F S128x128 .f32) (main_arg2 : FVec F S100000x128 .f32) (main_arg3 : IVec S100000 32) : IVec S4096x128 1 × IVec S4096x128 1 × IVec S128x128 1 × IVec S128x128 1 × IVec S100000x128 1 × IVec S100000x128 1 :=
  let main_cst : FVec F S_ .f32 := constant S_ .f32 0xFF800000#32
  let main_v0 : FVec F S4096x128 .f32 := broadcastInDim S4096x128 ![] bcast_S_S4096x128 main_cst
  let main_v1 : IVec S4096x128 1 := cmpf .ogt main_arg0 main_v0
  let main_cst_0 : FVec F S_ .f32 := constant S_ .f32 0x7F800000#32
  let main_v2 : FVec F S4096x128 .f32 := broadcastInDim S4096x128 ![] bcast_S_S4096x128 main_cst_0
  let main_v3 : IVec S4096x128 1 := cmpf .olt main_arg0 main_v2
  let main_cst_1 : FVec F S_ .f32 := constant S_ .f32 0xFF800000#32
  let main_v4 : FVec F S128x128 .f32 := broadcastInDim S128x128 ![] bcast_S_S128x128 main_cst_1
  let main_v5 : IVec S128x128 1 := cmpf .ogt main_arg1 main_v4
  let main_cst_2 : FVec F S_ .f32 := constant S_ .f32 0x7F800000#32
  let main_v6 : FVec F S128x128 .f32 := broadcastInDim S128x128 ![] bcast_S_S128x128 main_cst_2
  let main_v7 : IVec S128x128 1 := cmpf .olt main_arg1 main_v6
  let main_cst_3 : FVec F S_ .f32 := constant S_ .f32 0xFF800000#32
  let main_v8 : FVec F S100000x128 .f32 := broadcastInDim S100000x128 ![] bcast_S_S100000x128 main_cst_3
  let main_v9 : IVec S100000x128 1 := cmpf .ogt main_arg2 main_v8
  let main_cst_4 : FVec F S_ .f32 := constant S_ .f32 0x7F800000#32
  let main_v10 : FVec F S100000x128 .f32 := broadcastInDim S100000x128 ![] bcast_S_S100000x128 main_cst_4
  let main_v11 : IVec S100000x128 1 := cmpf .olt main_arg2 main_v10
  (main_v1, main_v3, main_v5, main_v7, main_v9, main_v11)
-- ==== Kernel.lean ====
abbrev S4096x128 : Shape := ⟨2, ![4096, 128]⟩
abbrev S128x128 : Shape := ⟨2, ![128, 128]⟩
abbrev S100000x128 : Shape := ⟨2, ![100000, 128]⟩
abbrev S100000 : Shape := ⟨1, ![100000]⟩
abbrev S_ : Shape := ⟨0, ![]⟩
abbrev S100352x128 : Shape := ⟨2, ![100352, 128]⟩
abbrev S4096x16 : Shape := ⟨2, ![4096, 16]⟩
abbrev S256x128 : Shape := ⟨2, ![256, 128]⟩
abbrev S2048x128 : Shape := ⟨2, ![2048, 128]⟩
abbrev S256x16 : Shape := ⟨2, ![256, 16]⟩
abbrev S256x2048 : Shape := ⟨2, ![256, 2048]⟩
abbrev S256x2064 : Shape := ⟨2, ![256, 2064]⟩
abbrev S256 : Shape := ⟨1, ![256]⟩
abbrev S256x1 : Shape := ⟨2, ![256, 1]⟩
abbrev S4096x16x1 : Shape := ⟨3, ![4096, 16, 1]⟩
abbrev S1 : Shape := ⟨1, ![1]⟩
abbrev S1x1x1 : Shape := ⟨3, ![1, 1, 1]⟩

abbrev nBuf : Space → Nat
  | .hbm => 31
  | .vmem => 12
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S100000x128, .f32⟩
  | .hbm, ⟨3, _⟩ => ⟨S100000, .i32⟩
  | .hbm, ⟨4, _⟩ => ⟨S_, .i32⟩
  | .hbm, ⟨5, _⟩ => ⟨S_, .f32⟩
  | .hbm, ⟨6, _⟩ => ⟨S100352x128, .f32⟩
  | .hbm, ⟨7, _⟩ => ⟨S4096x16, .i32⟩
  | .hbm, ⟨8, _⟩ => ⟨S4096x16, .f32⟩
  | .hbm, ⟨9, _⟩ => ⟨S_, .i32⟩
  | .hbm, ⟨10, _⟩ => ⟨S4096x16, .i32⟩
  | .hbm, ⟨11, _⟩ => ⟨S4096x16, .i1⟩
  | .hbm, ⟨12, _⟩ => ⟨S_, .i32⟩
  | .hbm, ⟨13, _⟩ => ⟨S4096x16, .i32⟩
  | .hbm, ⟨14, _⟩ => ⟨S4096x16, .i32⟩
  | .hbm, ⟨15, _⟩ => ⟨S4096x16, .i32⟩
  | .hbm, ⟨16, _⟩ => ⟨S4096x16x1, .i32⟩
  | .hbm, ⟨17, _⟩ => ⟨S1, .i32⟩
  | .hbm, ⟨18, _⟩ => ⟨S_, .i32⟩
  | .hbm, ⟨19, _⟩ => ⟨S4096x16x1, .i32⟩
  | .hbm, ⟨20, _⟩ => ⟨S4096x16x1, .i1⟩
  | .hbm, ⟨21, _⟩ => ⟨S1x1x1, .i32⟩
  | .hbm, ⟨22, _⟩ => ⟨S4096x16x1, .i32⟩
  | .hbm, ⟨23, _⟩ => ⟨S4096x16x1, .i1⟩
  | .hbm, ⟨24, _⟩ => ⟨S4096x16x1, .i1⟩
  | .hbm, ⟨25, _⟩ => ⟨S_, .i1⟩
  | .hbm, ⟨26, _⟩ => ⟨S4096x16, .i1⟩
  | .hbm, ⟨27, _⟩ => ⟨S4096x16, .i32⟩
  | .hbm, ⟨28, _⟩ => ⟨S_, .i32⟩
  | .hbm, ⟨29, _⟩ => ⟨S4096x16, .i32⟩
  | .hbm, ⟨30, _⟩ => ⟨S4096x16, .i32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S256x16, .i32⟩
  | .local _ .vmem, ⟨6, _⟩ => ⟨S256x16, .i32⟩
  | .local _ .vmem, ⟨7, _⟩ => ⟨S256x16, .f32⟩
  | .local _ .vmem, ⟨8, _⟩ => ⟨S256x16, .f32⟩
  | .local _ .vmem, ⟨9, _⟩ => ⟨S256x128, .f32⟩
  | .local _ .vmem, ⟨10, _⟩ => ⟨S256x16, .f32⟩
  | .local _ .vmem, ⟨11, _⟩ => ⟨S256x16, .i32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_c_4 : Ref sig .tc := ⟨.hbm, 28, rfl⟩
abbrev main_call1_v14 : Ref sig .tc := ⟨.hbm, 29, rfl⟩
abbrev main_v2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 49], ![false, false]⟩

def k0_cond2 (i : grid0.Coords) : BitVec 1 :=
  let arg1 : BitVec 32 := BitVec.ofNat 32 (i 1).val
  let c48_i32 : BitVec 32 := 48#32
  let v312 : BitVec 1 := Scalar.cmpi .eq arg1 c48_i32
  let v313 : BitVec 32 := Scalar.extui v312
  let c0_i32_107 : BitVec 32 := 0#32
  let v314 : BitVec 1 := Scalar.cmpi .ne v313 c0_i32_107
  v314

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x128 : Shape := ⟨2, ![4096, 128]⟩
abbrev S128x128 : Shape := ⟨2, ![128, 128]⟩
abbrev S100000x128 : Shape := ⟨2, ![100000, 128]⟩
abbrev S100000 : Shape := ⟨1, ![100000]⟩
abbrev S128x100000 : Shape := ⟨2, ![128, 100000]⟩
abbrev S4096x100000 : Shape := ⟨2, ![4096, 100000]⟩
abbrev S4096x16 : Shape := ⟨2, ![4096, 16]⟩
abbrev S_ : Shape := ⟨0, ![]⟩
abbrev S4096x16x1 : Shape := ⟨3, ![4096, 16, 1]⟩
abbrev S1 : Shape := ⟨1, ![1]⟩
abbrev S1x1x1 : Shape := ⟨3, ![1, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S100000x128, .f32⟩
  | .hbm, ⟨3, _⟩ => ⟨S100000, .i32⟩
  | .hbm, ⟨4, _⟩ => ⟨S128x128, .f32⟩
  | .hbm, ⟨5, _⟩ => ⟨S4096x128, .f32⟩
  | .hbm, ⟨6, _⟩ => ⟨S128x100000, .f32⟩
  | .hbm, ⟨7, _⟩ => ⟨S4096x100000, .f32⟩
  | .hbm, ⟨8, _⟩ => ⟨S4096x16, .f32⟩
  | .hbm, ⟨9, _⟩ => ⟨S4096x16, .i32⟩
  | .hbm, ⟨10, _⟩ => ⟨S_, .i32⟩
  | .hbm, ⟨11, _⟩ => ⟨S4096x16, .i32⟩
  | .hbm, ⟨12, _⟩ => ⟨S4096x16, .i1⟩
  | .hbm, ⟨13, _⟩ => ⟨S_, .i32⟩
  | .hbm, ⟨14, _⟩ => ⟨S4096x16, .i32⟩
  | .hbm, ⟨15, _⟩ => ⟨S4096x16, .i32⟩
  | .hbm, ⟨16, _⟩ => ⟨S4096x16, .i32⟩
  | .hbm, ⟨17, _⟩ => ⟨S4096x16x1, .i32⟩
  | .hbm, ⟨18, _⟩ => ⟨S1, .i32⟩
  | .hbm, ⟨19, _⟩ => ⟨S_, .i32⟩
  | .hbm, ⟨20, _⟩ => ⟨S4096x16x1, .i32⟩
  | .hbm, ⟨21, _⟩ => ⟨S4096x16x1, .i1⟩
  | .hbm, ⟨22, _⟩ => ⟨S1x1x1, .i32⟩
  | .hbm, ⟨23, _⟩ => ⟨S4096x16x1, .i32⟩
  | .hbm, ⟨24, _⟩ => ⟨S4096x16x1, .i1⟩
  | .hbm, ⟨25, _⟩ => ⟨S4096x16x1, .i1⟩
  | .hbm, ⟨26, _⟩ => ⟨S_, .i1⟩
  | .hbm, ⟨27, _⟩ => ⟨S4096x16, .i1⟩
  | .hbm, ⟨28, _⟩ => ⟨S4096x16, .i32⟩
  | .hbm, ⟨29, _⟩ => ⟨S_, .i32⟩
  | .hbm, ⟨30, _⟩ => ⟨S4096x16, .i32⟩
  | .hbm, ⟨31, _⟩ => ⟨S4096x16, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_c_4 : Ref sig .tc := ⟨.hbm, 29, rfl⟩
abbrev main_call0_v14 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Proof.TopK.Round.lean ====
/-
  One grid point's sixteen rounds, as one function iterated.

  The printed body writes the sixteen rounds of a grid point one after the other. Here a round is written once
  (`rowMax`, `firstAt`, `docAt`, `clear`), its iteration is `after`, and every value the printed body names is shown to
  be the matching value of the iteration, so that what the body stores is `newVals` and `newDocs` of the row it starts
  from.
-/
module

public import proofs.«01_k».proof.Proof.Gen.KernelIdeal.Skeleton
public import Idealize.ShloMosaic.Lib.Pipeline.Value

@[expose] public section

noncomputable section

namespace Cert.KernelIdeal.TopK

open Idealize.ShloMosaic
open Cert.KernelIdeal Cert.KernelIdeal.Gen

variable {F : FTy → Type} [FloatOps F]

/-- The positions of a row, as words. -/
def places : IVec S256x2064 32 := iota .tc S256x2064 32 [1] iota_S256x2064_d1_w32

/-- Each row's maximum. -/
def rowMax (x : FVec F S256x2064 .f32) : FVec F S256x1 .f32 :=
  shapeCast S256x1 (multiReduction .maximumf [1] S256 x 0xFF800000#32 reduces_S256x2064_S256 (.inl rfl) rfl) shapeCasts_S256_S256x1

/-- The least, in each row, of the words of `y` where the mask `b` is set and of `2^30` elsewhere. -/
def leastWhere (b : IVec S256x2064 1) (y : IVec S256x2064 32) : IVec S256x1 32 :=
  shapeCast S256x1 (multiReductionI .minsi [1] S256 (select b y (broadcast S256x2064 1073741824#32)) 2147483647#32
    reduces_S256x2064_S256 rfl) shapeCasts_S256_S256x1

/-- The first position, in each row, that holds the row's maximum. -/
def firstAt (x : FVec F S256x2064 .f32) : IVec S256x1 32 :=
  leastWhere (cmpf .oeq x (broadcastTo S256x2064 (rowMax x) broadcasts_S256x1_S256x2064)) places

/-- The mask of the position a round picks in each row. -/
def mask (x : FVec F S256x2064 .f32) : IVec S256x2064 1 :=
  cmpi .eq places (broadcastTo S256x2064 (firstAt x) broadcasts_S256x1_S256x2064)

/-- The document at the position a round picks in each row. -/
def docAt (ids : IVec S256x2064 32) (x : FVec F S256x2064 .f32) : IVec S256x1 32 := leastWhere (mask x) ids

/-- Rows of `-∞`. -/
def botRow : FVec F S256x2064 .f32 := broadcast S256x2064 (Scalar.ofBits .f32 0xFF800000#32)

/-- The rows with each one's pick overwritten by `-∞`. -/
def clear (x : FVec F S256x2064 .f32) : FVec F S256x2064 .f32 := select (mask x) botRow x

/-- The rows after `r` rounds. -/
def after (x : FVec F S256x2064 .f32) : ℕ → FVec F S256x2064 .f32
  | 0 => x
  | r + 1 => clear (after x r)

/-- The sixteen rounds' maxima, side by side. -/
def newVals (x : FVec F S256x2064 .f32) : FVec F S256x16 .f32 :=
  concatenate S256x16 1 [⟨S256x1, rowMax (after x 0)⟩, ⟨S256x1, rowMax (after x 1)⟩, ⟨S256x1, rowMax (after x 2)⟩, ⟨S256x1, rowMax (after x 3)⟩, ⟨S256x1, rowMax (after x 4)⟩, ⟨S256x1, rowMax (after x 5)⟩, ⟨S256x1, rowMax (after x 6)⟩, ⟨S256x1, rowMax (after x 7)⟩, ⟨S256x1, rowMax (after x 8)⟩, ⟨S256x1, rowMax (after x 9)⟩, ⟨S256x1, rowMax (after x 10)⟩, ⟨S256x1, rowMax (after x 11)⟩, ⟨S256x1, rowMax (after x 12)⟩, ⟨S256x1, rowMax (after x 13)⟩, ⟨S256x1, rowMax (after x 14)⟩, ⟨S256x1, rowMax (after x 15)⟩]
    concatenates_S256x1_S256x1_S256x1_S256x1_S256x1_S256x1_S256x1_S256x1_S256x1_S256x1_S256x1_S256x1_S256x1_S256x1_S256x1_S256x1_S256x16_d1

/-- The sixteen rounds' documents, side by side. -/
def newDocs (ids : IVec S256x2064 32) (x : FVec F S256x2064 .f32) : IVec S256x16 32 :=
  concatenate S256x16 1 [⟨S256x1, docAt ids (after x 0)⟩, ⟨S256x1, docAt ids (after x 1)⟩, ⟨S256x1, docAt ids (after x 2)⟩, ⟨S256x1, docAt ids (after x 3)⟩, ⟨S256x1, docAt ids (after x 4)⟩, ⟨S256x1, docAt ids (after x 5)⟩, ⟨S256x1, docAt ids (after x 6)⟩, ⟨S256x1, docAt ids (after x 7)⟩, ⟨S256x1, docAt ids (after x 8)⟩, ⟨S256x1, docAt ids (after x 9)⟩, ⟨S256x1, docAt ids (after x 10)⟩, ⟨S256x1, docAt ids (after x 11)⟩, ⟨S256x1, docAt ids (after x 12)⟩, ⟨S256x1, docAt ids (after x 13)⟩, ⟨S256x1, docAt ids (after x 14)⟩, ⟨S256x1, docAt ids (after x 15)⟩]
    concatenates_S256x1_S256x1_S256x1_S256x1_S256x1_S256x1_S256x1_S256x1_S256x1_S256x1_S256x1_S256x1_S256x1_S256x1_S256x1_S256x1_S256x16_d1

/-! ## The first round's values, over the row the point starts from -/

section First
variable (i : grid0.Coords) (v3 : Vec F S256x128 .f32) (v4 : Vec F S2048x128 .f32) (v15 : Vec F S256x16 .f32)

/-- `k0_pay9` is round 0's maxima. -/
theorem k0_pay9_eq : k0_pay9 i v3 v4 v15 = rowMax (after (k0_pay7 i v3 v4 v15) 0) := rfl

/-- `k0_pay10` is the places round 0 picks. -/
theorem k0_pay10_eq : k0_pay10 i v3 v4 v15 = firstAt (after (k0_pay7 i v3 v4 v15) 0) := by
  unfold k0_pay10; rw [k0_pay9_eq]; rfl

/-- `k0_pay11` is the documents round 0 picks. -/
theorem k0_pay11_eq (v17 : Vec F S256x16 .i32) :
    k0_pay11 i v3 v4 v15 v17 = docAt (k0_pay8 i v17) (after (k0_pay7 i v3 v4 v15) 0) := by
  unfold k0_pay11; rw [k0_pay10_eq]; rfl

/-- `k0_pay12` is the mask of round 0's picks. -/
theorem k0_pay12_eq : k0_pay12 i v3 v4 v15 = mask (after (k0_pay7 i v3 v4 v15) 0) := by
  unfold k0_pay12; rw [k0_pay10_eq]; rfl

end First

/-! ## The later rounds' values: each is the value of the iteration its operands make it -/

/-- `k0_pay13` is the row of `-∞`. -/
theorem k0_pay13_eq : (k0_pay13 : FVec F S256x2064 .f32) = botRow := rfl

/-- `k0_pay14` is the rows after 1 rounds. -/
theorem k0_pay14_eq (x : FVec F S256x2064 .f32) : k0_pay14 x (mask (after x 0)) botRow = after x 1 := rfl

/-- `k0_pay15` is round 1's maxima. -/
theorem k0_pay15_eq (x : FVec F S256x2064 .f32) : k0_pay15 x (mask (after x 0)) botRow = rowMax (after x 1) := by
  unfold k0_pay15
  simp only [k0_pay14_eq]
  rfl

/-- `k0_pay16` is the places round 1 picks. -/
theorem k0_pay16_eq (x : FVec F S256x2064 .f32) : k0_pay16 x places (mask (after x 0)) botRow = firstAt (after x 1) := by
  unfold k0_pay16
  simp only [k0_pay14_eq, k0_pay15_eq]
  rfl

/-- `k0_pay17` is the documents round 1 picks. -/
theorem k0_pay17_eq (ids : IVec S256x2064 32) (x : FVec F S256x2064 .f32) : k0_pay17 x ids places (mask (after x 0)) botRow = docAt ids (after x 1) := by
  unfold k0_pay17
  simp only [k0_pay16_eq]
  rfl

/-- `k0_pay18` is the rows after 2 rounds. -/
theorem k0_pay18_eq (x : FVec F S256x2064 .f32) : k0_pay18 x places (mask (after x 0)) botRow = after x 2 := by
  unfold k0_pay18
  simp only [k0_pay14_eq, k0_pay16_eq]
  rfl

/-- `k0_pay19` is round 2's maxima. -/
theorem k0_pay19_eq (x : FVec F S256x2064 .f32) : k0_pay19 x places (mask (after x 0)) botRow = rowMax (after x 2) := by
  unfold k0_pay19
  simp only [k0_pay18_eq]
  rfl

/-- `k0_pay20` is the places round 2 picks. -/
theorem k0_pay20_eq (x : FVec F S256x2064 .f32) : k0_pay20 x places (mask (after x 0)) botRow = firstAt (after x 2) := by
  unfold k0_pay20
  simp only [k0_pay18_eq, k0_pay19_eq]
  rfl

/-- `k0_pay21` is the documents round 2 picks. -/
theorem k0_pay21_eq (ids : IVec S256x2064 32) (x : FVec F S256x2064 .f32) : k0_pay21 x ids places (mask (after x 0)) botRow = docAt ids (after x 2) := by
  unfold k0_pay21
  simp only [k0_pay20_eq]
  rfl

/-- `k0_pay22` is the rows after 3 rounds. -/
theorem k0_pay22_eq (x : FVec F S256x2064 .f32) : k0_pay22 x places (mask (after x 0)) botRow = after x 3 := by
  unfold k0_pay22
  simp only [k0_pay18_eq, k0_pay20_eq]
  rfl

/-- `k0_pay23` is round 3's maxima. -/
theorem k0_pay23_eq (x : FVec F S256x2064 .f32) : k0_pay23 x places (mask (after x 0)) botRow = rowMax (after x 3) := by
  unfold k0_pay23
  simp only [k0_pay22_eq]
  rfl

/-- `k0_pay24` is the places round 3 picks. -/
theorem k0_pay24_eq (x : FVec F S256x2064 .f32) : k0_pay24 x places (mask (after x 0)) botRow = firstAt (after x 3) := by
  unfold k0_pay24
  simp only [k0_pay22_eq, k0_pay23_eq]
  rfl

/-- `k0_pay25` is the documents round 3 picks. -/
theorem k0_pay25_eq (ids : IVec S256x2064 32) (x : FVec F S256x2064 .f32) : k0_pay25 ids places (firstAt (after x 3)) = docAt ids (after x 3) := rfl

/-- `k0_pay26` is the rows after 4 rounds. -/
theorem k0_pay26_eq (x : FVec F S256x2064 .f32) : k0_pay26 places (after x 3) (firstAt (after x 3)) = after x 4 := rfl

/-- `k0_pay27` is round 4's maxima. -/
theorem k0_pay27_eq (x : FVec F S256x2064 .f32) : k0_pay27 places (after x 3) (firstAt (after x 3)) = rowMax (after x 4) := by
  unfold k0_pay27
  simp only [k0_pay26_eq]
  rfl

/-- `k0_pay28` is the places round 4 picks. -/
theorem k0_pay28_eq (x : FVec F S256x2064 .f32) : k0_pay28 places (after x 3) (firstAt (after x 3)) = firstAt (after x 4) := by
  unfold k0_pay28
  simp only [k0_pay26_eq, k0_pay27_eq]
  rfl

/-- `k0_pay29` is the documents round 4 picks. -/
theorem k0_pay29_eq (ids : IVec S256x2064 32) (x : FVec F S256x2064 .f32) : k0_pay29 ids places (after x 3) (firstAt (after x 3)) = docAt ids (after x 4) := by
  unfold k0_pay29
  simp only [k0_pay28_eq]
  rfl

/-- `k0_pay30` is the rows after 5 rounds. -/
theorem k0_pay30_eq (x : FVec F S256x2064 .f32) : k0_pay30 places (after x 3) (firstAt (after x 3)) = after x 5 := by
  unfold k0_pay30
  simp only [k0_pay26_eq, k0_pay28_eq]
  rfl

/-- `k0_pay31` is round 5's maxima. -/
theorem k0_pay31_eq (x : FVec F S256x2064 .f32) : k0_pay31 places (after x 3) (firstAt (after x 3)) = rowMax (after x 5) := by
  unfold k0_pay31
  simp only [k0_pay30_eq]
  rfl

/-- `k0_pay32` is the places round 5 picks. -/
theorem k0_pay32_eq (x : FVec F S256x2064 .f32) : k0_pay32 places (after x 3) (firstAt (after x 3)) = firstAt (after x 5) := by
  unfold k0_pay32
  simp only [k0_pay30_eq, k0_pay31_eq]
  rfl

/-- `k0_pay33` is the documents round 5 picks. -/
theorem k0_pay33_eq (ids : IVec S256x2064 32) (x : FVec F S256x2064 .f32) : k0_pay33 ids places (after x 3) (firstAt (after x 3)) = docAt ids (after x 5) := by
  unfold k0_pay33
  simp only [k0_pay32_eq]
  rfl

/-- `k0_pay34` is the mask of round 5's picks. -/
theorem k0_pay34_eq (x : FVec F S256x2064 .f32) : k0_pay34 places (after x 3) (firstAt (after x 3)) = mask (after x 5) := by
  unfold k0_pay34
  simp only [k0_pay32_eq]
  rfl

/-- `k0_pay35` is the row of `-∞`. -/
theorem k0_pay35_eq : (k0_pay35 : FVec F S256x2064 .f32) = botRow := rfl

/-- `k0_pay36` is the rows after 6 rounds. -/
theorem k0_pay36_eq (x : FVec F S256x2064 .f32) : k0_pay36 (after x 5) (mask (after x 5)) botRow = after x 6 := rfl

/-- `k0_pay37` is round 6's maxima. -/
theorem k0_pay37_eq (x : FVec F S256x2064 .f32) : k0_pay37 (after x 5) (mask (after x 5)) botRow = rowMax (after x 6) := by
  unfold k0_pay37
  simp only [k0_pay36_eq]
  rfl

/-- `k0_pay38` is the places round 6 picks. -/
theorem k0_pay38_eq (x : FVec F S256x2064 .f32) : k0_pay38 places (after x 5) (mask (after x 5)) botRow = firstAt (after x 6) := by
  unfold k0_pay38
  simp only [k0_pay36_eq, k0_pay37_eq]
  rfl

/-- `k0_pay39` is the documents round 6 picks. -/
theorem k0_pay39_eq (ids : IVec S256x2064 32) (x : FVec F S256x2064 .f32) : k0_pay39 ids places (after x 5) (mask (after x 5)) botRow = docAt ids (after x 6) := by
  unfold k0_pay39
  simp only [k0_pay38_eq]
  rfl

/-- `k0_pay40` is the rows after 7 rounds. -/
theorem k0_pay40_eq (x : FVec F S256x2064 .f32) : k0_pay40 places (after x 5) (mask (after x 5)) botRow = after x 7 := by
  unfold k0_pay40
  simp only [k0_pay36_eq, k0_pay38_eq]
  rfl

/-- `k0_pay41` is round 7's maxima. -/
theorem k0_pay41_eq (x : FVec F S256x2064 .f32) : k0_pay41 places (after x 5) (mask (after x 5)) botRow = rowMax (after x 7) := by
  unfold k0_pay41
  simp only [k0_pay40_eq]
  rfl

/-- `k0_pay42` is the places round 7 picks. -/
theorem k0_pay42_eq (x : FVec F S256x2064 .f32) : k0_pay42 places (after x 5) (mask (after x 5)) botRow = firstAt (after x 7) := by
  unfold k0_pay42
  simp only [k0_pay40_eq, k0_pay41_eq]
  rfl

/-- `k0_pay43` is the documents round 7 picks. -/
theorem k0_pay43_eq (ids : IVec S256x2064 32) (x : FVec F S256x2064 .f32) : k0_pay43 ids places (after x 5) (mask (after x 5)) botRow = docAt ids (after x 7) := by
  unfold k0_pay43
  simp only [k0_pay42_eq]
  rfl

/-- `k0_pay44` is the rows after 8 rounds. -/
theorem k0_pay44_eq (x : FVec F S256x2064 .f32) : k0_pay44 places (after x 5) (mask (after x 5)) botRow = after x 8 := by
  unfold k0_pay44
  simp only [k0_pay40_eq, k0_pay42_eq]
  rfl

/-- `k0_pay45` is round 8's maxima. -/
theorem k0_pay45_eq (x : FVec F S256x2064 .f32) : k0_pay45 places (after x 5) (mask (after x 5)) botRow = rowMax (after x 8) := by
  unfold k0_pay45
  simp only [k0_pay44_eq]
  rfl

/-- `k0_pay46` is the places round 8 picks. -/
theorem k0_pay46_eq (x : FVec F S256x2064 .f32) : k0_pay46 places (after x 5) (mask (after x 5)) botRow = firstAt (after x 8) := by
  unfold k0_pay46
  simp only [k0_pay44_eq, k0_pay45_eq]
  rfl

/-- `k0_pay47` is the documents round 8 picks. -/
theorem k0_pay47_eq (ids : IVec S256x2064 32) (x : FVec F S256x2064 .f32) : k0_pay47 ids places (firstAt (after x 8)) = docAt ids (after x 8) := rfl

/-- `k0_pay48` is the rows after 9 rounds. -/
theorem k0_pay48_eq (x : FVec F S256x2064 .f32) : k0_pay48 places (after x 8) (firstAt (after x 8)) = after x 9 := rfl

/-- `k0_pay49` is round 9's maxima. -/
theorem k0_pay49_eq (x : FVec F S256x2064 .f32) : k0_pay49 places (after x 8) (firstAt (after x 8)) = rowMax (after x 9) := by
  unfold k0_pay49
  simp only [k0_pay48_eq]
  rfl

/-- `k0_pay50` is the places round 9 picks. -/
theorem k0_pay50_eq (x : FVec F S256x2064 .f32) : k0_pay50 places (after x 8) (firstAt (after x 8)) = firstAt (after x 9) := by
  unfold k0_pay50
  simp only [k0_pay48_eq, k0_pay49_eq]
  rfl

/-- `k0_pay51` is the documents round 9 picks. -/
theorem k0_pay51_eq (ids : IVec S256x2064 32) (x : FVec F S256x2064 .f32) : k0_pay51 ids places (after x 8) (firstAt (after x 8)) = docAt ids (after x 9) := by
  unfold k0_pay51
  simp only [k0_pay50_eq]
  rfl

/-- `k0_pay52` is the rows after 10 rounds. -/
theorem k0_pay52_eq (x : FVec F S256x2064 .f32) : k0_pay52 places (after x 8) (firstAt (after x 8)) = after x 10 := by
  unfold k0_pay52
  simp only [k0_pay48_eq, k0_pay50_eq]
  rfl

/-- `k0_pay53` is round 10's maxima. -/
theorem k0_pay53_eq (x : FVec F S256x2064 .f32) : k0_pay53 places (after x 8) (firstAt (after x 8)) = rowMax (after x 10) := by
  unfold k0_pay53
  simp only [k0_pay52_eq]
  rfl

/-- `k0_pay54` is the places round 10 picks. -/
theorem k0_pay54_eq (x : FVec F S256x2064 .f32) : k0_pay54 places (after x 8) (firstAt (after x 8)) = firstAt (after x 10) := by
  unfold k0_pay54
  simp only [k0_pay52_eq, k0_pay53_eq]
  rfl

/-- `k0_pay55` is the documents round 10 picks. -/
theorem k0_pay55_eq (ids : IVec S256x2064 32) (x : FVec F S256x2064 .f32) : k0_pay55 ids places (after x 8) (firstAt (after x 8)) = docAt ids (after x 10) := by
  unfold k0_pay55
  simp only [k0_pay54_eq]
  rfl

/-- `k0_pay56` is the mask of round 10's picks. -/
theorem k0_pay56_eq (x : FVec F S256x2064 .f32) : k0_pay56 places (after x 8) (firstAt (after x 8)) = mask (after x 10) := by
  unfold k0_pay56
  simp only [k0_pay54_eq]
  rfl

/-- `k0_pay57` is the row of `-∞`. -/
theorem k0_pay57_eq : (k0_pay57 : FVec F S256x2064 .f32) = botRow := rfl

/-- `k0_pay58` is the rows after 11 rounds. -/
theorem k0_pay58_eq (x : FVec F S256x2064 .f32) : k0_pay58 (after x 10) (mask (after x 10)) botRow = after x 11 := rfl

/-- `k0_pay59` is round 11's maxima. -/
theorem k0_pay59_eq (x : FVec F S256x2064 .f32) : k0_pay59 (after x 10) (mask (after x 10)) botRow = rowMax (after x 11) := by
  unfold k0_pay59
  simp only [k0_pay58_eq]
  rfl

/-- `k0_pay60` is the places round 11 picks. -/
theorem k0_pay60_eq (x : FVec F S256x2064 .f32) : k0_pay60 places (after x 10) (mask (after x 10)) botRow = firstAt (after x 11) := by
  unfold k0_pay60
  simp only [k0_pay58_eq, k0_pay59_eq]
  rfl

/-- `k0_pay61` is the documents round 11 picks. -/
theorem k0_pay61_eq (ids : IVec S256x2064 32) (x : FVec F S256x2064 .f32) : k0_pay61 ids places (after x 10) (mask (after x 10)) botRow = docAt ids (after x 11) := by
  unfold k0_pay61
  simp only [k0_pay60_eq]
  rfl

/-- `k0_pay62` is the rows after 12 rounds. -/
theorem k0_pay62_eq (x : FVec F S256x2064 .f32) : k0_pay62 places (after x 10) (mask (after x 10)) botRow = after x 12 := by
  unfold k0_pay62
  simp only [k0_pay58_eq, k0_pay60_eq]
  rfl

/-- `k0_pay63` is round 12's maxima. -/
theorem k0_pay63_eq (x : FVec F S256x2064 .f32) : k0_pay63 places (after x 10) (mask (after x 10)) botRow = rowMax (after x 12) := by
  unfold k0_pay63
  simp only [k0_pay62_eq]
  rfl

/-- `k0_pay64` is the places round 12 picks. -/
theorem k0_pay64_eq (x : FVec F S256x2064 .f32) : k0_pay64 places (after x 10) (mask (after x 10)) botRow = firstAt (after x 12) := by
  unfold k0_pay64
  simp only [k0_pay62_eq, k0_pay63_eq]
  rfl

/-- `k0_pay65` is the documents round 12 picks. -/
theorem k0_pay65_eq (ids : IVec S256x2064 32) (x : FVec F S256x2064 .f32) : k0_pay65 ids places (after x 10) (mask (after x 10)) botRow = docAt ids (after x 12) := by
  unfold k0_pay65
  simp only [k0_pay64_eq]
  rfl

/-- `k0_pay66` is the rows after 13 rounds. -/
theorem k0_pay66_eq (x : FVec F S256x2064 .f32) : k0_pay66 places (after x 10) (mask (after x 10)) botRow = after x 13 := by
  unfold k0_pay66
  simp only [k0_pay62_eq, k0_pay64_eq]
  rfl

/-- `k0_pay67` is round 13's maxima. -/
theorem k0_pay67_eq (x : FVec F S256x2064 .f32) : k0_pay67 places (after x 10) (mask (after x 10)) botRow = rowMax (after x 13) := by
  unfold k0_pay67
  simp only [k0_pay66_eq]
  rfl

/-- `k0_pay68` is the places round 13 picks. -/
theorem k0_pay68_eq (x : FVec F S256x2064 .f32) : k0_pay68 places (after x 10) (mask (after x 10)) botRow = firstAt (after x 13) := by
  unfold k0_pay68
  simp only [k0_pay66_eq, k0_pay67_eq]
  rfl

/-- `k0_pay69` is the documents round 13 picks. -/
theorem k0_pay69_eq (ids : IVec S256x2064 32) (x : FVec F S256x2064 .f32) : k0_pay69 ids places (firstAt (after x 13)) = docAt ids (after x 13) := rfl

/-- `k0_pay70` is the rows after 14 rounds. -/
theorem k0_pay70_eq (x : FVec F S256x2064 .f32) : k0_pay70 places (after x 13) (firstAt (after x 13)) = after x 14 := rfl

/-- `k0_pay71` is round 14's maxima. -/
theorem k0_pay71_eq (x : FVec F S256x2064 .f32) : k0_pay71 places (after x 13) (firstAt (after x 13)) = rowMax (after x 14) := by
  unfold k0_pay71
  simp only [k0_pay70_eq]
  rfl

/-- `k0_pay72` is the places round 14 picks. -/
theorem k0_pay72_eq (x : FVec F S256x2064 .f32) : k0_pay72 places (after x 13) (firstAt (after x 13)) = firstAt (after x 14) := by
  unfold k0_pay72
  simp only [k0_pay70_eq, k0_pay71_eq]
  rfl

/-- `k0_pay73` is the documents round 14 picks. -/
theorem k0_pay73_eq (ids : IVec S256x2064 32) (x : FVec F S256x2064 .f32) : k0_pay73 ids places (after x 13) (firstAt (after x 13)) = docAt ids (after x 14) := by
  unfold k0_pay73
  simp only [k0_pay72_eq]
  rfl

/-- `k0_pay74` is the rows after 15 rounds. -/
theorem k0_pay74_eq (x : FVec F S256x2064 .f32) : k0_pay74 places (after x 13) (firstAt (after x 13)) = after x 15 := by
  unfold k0_pay74
  simp only [k0_pay70_eq, k0_pay72_eq]
  rfl

/-- `k0_pay75` is round 15's maxima. -/
theorem k0_pay75_eq (x : FVec F S256x2064 .f32) : k0_pay75 places (after x 13) (firstAt (after x 13)) = rowMax (after x 15) := by
  unfold k0_pay75
  simp only [k0_pay74_eq]
  rfl

/-- `k0_pay76` is the documents round 15 picks. -/
theorem k0_pay76_eq (ids : IVec S256x2064 32) (x : FVec F S256x2064 .f32) : k0_pay76 ids places (after x 13) (firstAt (after x 13)) = docAt ids (after x 15) := by
  unfold k0_pay76
  simp only [k0_pay74_eq, k0_pay75_eq]
  rfl

/-! ## What the point stores -/

/-- The iota the body reads (its list of axes typed by the literal rank) is the words of the positions. -/
theorem places_eq : iota .tc S256x2064 32 (@List.cons (Fin 2) (1 : Fin S256x2064.rank) (@List.nil (Fin 2)))
    iota_S256x2064_d1_w32 = places := rfl

/-- The maxima the body lays side by side are the iteration's. -/
theorem k0_pay77_eq (x : FVec F S256x2064 .f32) : k0_pay77 places (rowMax (after x 0)) (rowMax (after x 1)) (rowMax (after x 2)) (rowMax (after x 3)) (rowMax (after x 4)) (rowMax (after x 5)) (rowMax (after x 6)) (rowMax (after x 7)) (rowMax (after x 8)) (rowMax (after x 9)) (rowMax (after x 10)) (rowMax (after x 11)) (rowMax (after x 12)) (after x 13) (rowMax (after x 13)) (firstAt (after x 13)) = newVals x := by
  unfold k0_pay77
  simp only [k0_pay71_eq, k0_pay75_eq]
  rfl

/-- The cast before the store of the maxima changes nothing. -/
theorem k0_pay1_eq (v : FVec F S256x16 .f32) : k0_pay1 v = v := shapeCast_self _ _

/-- The documents the body stores are the iteration's. -/
theorem k0_pay2_eq (ids : IVec S256x2064 32) (x : FVec F S256x2064 .f32) : k0_pay2 (docAt ids (after x 0)) (docAt ids (after x 1)) (docAt ids (after x 2)) (docAt ids (after x 3)) (docAt ids (after x 4)) (docAt ids (after x 5)) (docAt ids (after x 6)) (docAt ids (after x 7)) (docAt ids (after x 8)) (docAt ids (after x 9)) (docAt ids (after x 10)) (docAt ids (after x 11)) (docAt ids (after x 12)) (docAt ids (after x 13)) (docAt ids (after x 14)) (docAt ids (after x 15)) = newDocs ids x :=
  shapeCast_self _ _

end Cert.KernelIdeal.TopK

end
-- ==== Proof.TopK.Body.lean ====
/-
  What one grid point leaves in its buffers.

  A point is of three kinds: the first corpus tile of a query tile (which projects the queries and resets the carried
  leaders), a middle tile, and the last tile (which also copies the leaders out). Each buffer's contents after a point,
  as the run of the body found them, are read here as the functions of `Round.lean`.
-/
module

public import proofs.«01_k».proof.Proof.TopK.Round
public import proofs.«01_k».proof.Proof.Gen.KernelIdeal.Frame
public import Idealize.ShloMosaic.Lib.Pipeline.Value
public import Idealize.ShloMosaic.Lib.Tactic

@[expose] public section

noncomputable section

namespace Cert.KernelIdeal.TopK

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a2 : Memref sig .tc .vmem S256x128 .f32) (h2 : a2.IsWhole)
  (a3 : Memref sig .tc .vmem S128x128 .f32) (h3 : a3.IsWhole)
  (a4 : Memref sig .tc .vmem S2048x128 .f32) (h4 : a4.IsWhole)
  (a5 : Memref sig .tc .vmem S256x16 .i32) (h5 : a5.IsWhole)
  (a6 : Memref sig .tc .vmem S256x16 .f32) (h6 : a6.IsWhole)
  (a7 : Memref sig .tc .vmem S256x128 .f32) (h7 : a7.IsWhole)
  (a8 : Memref sig .tc .vmem S256x16 .f32) (h8 : a8.IsWhole)
  (a9 : Memref sig .tc .vmem S256x16 .i32) (h9 : a9.IsWhole)
  (x0 : Vec F S256x128 .f32) (x1 : Vec F S128x128 .f32) (x2 : Vec F S2048x128 .f32)
  (xs0 : Vec F S256x128 .f32) (xs1 : Vec F S256x16 .f32) (xs2 : Vec F S256x16 .i32)

/-- At a first corpus tile the point leaves the projected queries in `arg7` … -/
theorem first_proj (hc0 : cond0_0 i) (hc1 : ¬cond0_1 i) :
    sout0_A_0 c i a2 h2 a3 h3 a4 h4 a5 h5 a6 h6 a7 h7 a8 h8 a9 h9 hc0 hc1 x0 x1 x2
      = k0_pay3 x0 x1 := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]

/-- … the sixteen rounds' maxima in `arg8` … -/
theorem first_vals (hc0 : cond0_0 i) (hc1 : ¬cond0_1 i) :
    sout0_A_1 c i a2 h2 a3 h3 a4 h4 a5 h5 a6 h6 a7 h7 a8 h8 a9 h9 hc0 hc1 x0 x1 x2
      = newVals (k0_pay7 i (k0_pay3 x0 x1) x2 k0_pay4) := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- … and their documents in `arg9`. -/
theorem first_docs (hc0 : cond0_0 i) (hc1 : ¬cond0_1 i) :
    sout0_A_2 c i a2 h2 a3 h3 a4 h4 a5 h5 a6 h6 a7 h7 a8 h8 a9 h9 hc0 hc1 x0 x1 x2
      = newDocs (k0_pay8 (F := F) i k0_pay5) (k0_pay7 i (k0_pay3 x0 x1) x2 k0_pay4) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- At a middle tile the point leaves the maxima over the carried leaders and the tile in `arg8` … -/
theorem mid_vals (hc0 : ¬cond0_0 i) (hc1 : ¬cond0_1 i) :
    sout0_B_1 c i a2 h2 a3 h3 a4 h4 a5 h5 a6 h6 a7 h7 a8 h8 a9 h9 hc0 hc1 x0 x1 x2 xs0 xs1 xs2
      = newVals (k0_pay7 i xs0 x2 xs1) := by
  unfold sout0_B_1
  rw [View.read_writes_eq_canon _ _ _ (scover0_B_1 c i a2 h2 a3 h3 a4 h4 a5 h5 a6 h6 a7 h7 a8 h8 a9 h9 hc0 hc1 x0 x1 x2 xs0 xs1 xs2)]
  unfold kernelRun0_B
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- … and their documents in `arg9`. -/
theorem mid_docs (hc0 : ¬cond0_0 i) (hc1 : ¬cond0_1 i) :
    sout0_B_2 c i a2 h2 a3 h3 a4 h4 a5 h5 a6 h6 a7 h7 a8 h8 a9 h9 hc0 hc1 x0 x1 x2 xs0 xs1 xs2
      = newDocs (k0_pay8 i xs2) (k0_pay7 i xs0 x2 xs1) := by
  unfold sout0_B_2
  rw [View.read_writes_eq_canon _ _ _ (scover0_B_2 c i a2 h2 a3 h3 a4 h4 a5 h5 a6 h6 a7 h7 a8 h8 a9 h9 hc0 hc1 x0 x1 x2 xs0 xs1 xs2)]
  unfold kernelRun0_B
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- At a last tile it leaves the same in `arg8` … -/
theorem last_vals (hc0 : ¬cond0_0 i) (hc1 : cond0_1 i) :
    sout0_C_1 c i a2 h2 a3 h3 a4 h4 a5 h5 a6 h6 a7 h7 a8 h8 a9 h9 hc0 hc1 x0 x1 x2 xs0 xs1 xs2
      = newVals (k0_pay7 i xs0 x2 xs1) := by
  unfold sout0_C_1
  rw [View.read_writes_eq_canon _ _ _ (scover0_C_1 c i a2 h2 a3 h3 a4 h4 a5 h5 a6 h6 a7 h7 a8 h8 a9 h9 hc0 hc1 x0 x1 x2 xs0 xs1 xs2)]
  unfold kernelRun0_C
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- … and in `arg9` … -/
theorem last_docs (hc0 : ¬cond0_0 i) (hc1 : cond0_1 i) :
    sout0_C_2 c i a2 h2 a3 h3 a4 h4 a5 h5 a6 h6 a7 h7 a8 h8 a9 h9 hc0 hc1 x0 x1 x2 xs0 xs1 xs2
      = newDocs (k0_pay8 i xs2) (k0_pay7 i xs0 x2 xs1) := by
  unfold sout0_C_2
  rw [View.read_writes_eq_canon _ _ _ (scover0_C_2 c i a2 h2 a3 h3 a4 h4 a5 h5 a6 h6 a7 h7 a8 h8 a9 h9 hc0 hc1 x0 x1 x2 xs0 xs1 xs2)]
  unfold kernelRun0_C
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- … copies the documents to the first output's buffer … -/
theorem last_out_docs (hc0 : ¬cond0_0 i) (hc1 : cond0_1 i) :
    out0_C_3 c i a2 h2 a3 h3 a4 h4 a5 h5 a6 h6 a7 h7 a8 h8 a9 h9 hc0 hc1 x0 x1 x2 xs0 xs1 xs2
      = newDocs (k0_pay8 i xs2) (k0_pay7 i xs0 x2 xs1) := by
  unfold out0_C_3
  rw [View.read_writes_eq_canon _ _ _ (cover0_C_3 c i a2 h2 a3 h3 a4 h4 a5 h5 a6 h6 a7 h7 a8 h8 a9 h9 hc0 hc1 x0 x1 x2 xs0 xs1 xs2)]
  unfold kernelRun0_C
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

/-- … and the maxima to the second's. -/
theorem last_out_vals (hc0 : ¬cond0_0 i) (hc1 : cond0_1 i) :
    out0_C_4 c i a2 h2 a3 h3 a4 h4 a5 h5 a6 h6 a7 h7 a8 h8 a9 h9 hc0 hc1 x0 x1 x2 xs0 xs1 xs2
      = newVals (k0_pay7 i xs0 x2 xs1) := by
  unfold out0_C_4
  rw [View.read_writes_eq_canon _ _ _ (cover0_C_4 c i a2 h2 a3 h3 a4 h4 a5 h5 a6 h6 a7 h7 a8 h8 a9 h9 hc0 hc1 x0 x1 x2 xs0 xs1 xs2)]
  unfold kernelRun0_C
  dsimp only
  sl_unfold_words
  simp only [View.canon_cons_unit_zero (S := S256x16) hz, View.canon_unit_zero (S := S256x16) hz,
    View.canon_unit_zero (S := S256x128) hz, View.readCov_unit_zero (S := S256x16) _ hz, View.readCov_unit_zero (S := S256x128) _ hz,
    View.readAt_eq_ld, h2.read_unread, h3.read_unread, h4.read_unread, h7.read_unread, h8.read_unread, h9.read_unread,
    View.ld_unit_zero (S := S256x128) hz, View.ld_unit_zero (S := S128x128) hz, View.ld_unit_zero (S := S2048x128) hz,
    View.ld_unit_zero (S := S256x16) hz]
  simp only [places_eq, k0_pay9_eq, k0_pay10_eq, k0_pay11_eq, k0_pay12_eq, k0_pay13_eq, k0_pay14_eq, k0_pay15_eq, k0_pay16_eq, k0_pay17_eq, k0_pay18_eq, k0_pay19_eq, k0_pay20_eq, k0_pay21_eq, k0_pay22_eq, k0_pay23_eq, k0_pay24_eq, k0_pay25_eq, k0_pay26_eq, k0_pay27_eq, k0_pay28_eq, k0_pay29_eq, k0_pay30_eq, k0_pay31_eq, k0_pay32_eq, k0_pay33_eq, k0_pay34_eq, k0_pay35_eq, k0_pay36_eq, k0_pay37_eq, k0_pay38_eq, k0_pay39_eq, k0_pay40_eq, k0_pay41_eq, k0_pay42_eq, k0_pay43_eq, k0_pay44_eq, k0_pay45_eq, k0_pay46_eq, k0_pay47_eq, k0_pay48_eq, k0_pay49_eq, k0_pay50_eq, k0_pay51_eq, k0_pay52_eq, k0_pay53_eq, k0_pay54_eq, k0_pay55_eq, k0_pay56_eq, k0_pay57_eq, k0_pay58_eq, k0_pay59_eq, k0_pay60_eq, k0_pay61_eq, k0_pay62_eq, k0_pay63_eq, k0_pay64_eq, k0_pay65_eq, k0_pay66_eq, k0_pay67_eq, k0_pay68_eq, k0_pay69_eq, k0_pay70_eq, k0_pay71_eq, k0_pay72_eq, k0_pay73_eq, k0_pay74_eq, k0_pay75_eq, k0_pay76_eq, k0_pay77_eq, k0_pay1_eq, k0_pay2_eq]

end Cert.KernelIdeal.TopK

end
-- ==== Proof.TopK.Select.lean ====
/-
  Selecting the sixteen leaders of a list of scores by repeated maxima.

  A round looks at a row of scores, takes the largest (the leftmost where several are equal) and overwrites it by `⊥`.
  This file says, about plain functions into the extended reals and with no vector in sight, what sixteen such rounds
  find: the first sixteen positions in the order "larger score first, smaller position first among equals"
  (`Rounds.asc`, `Rounds.dom`) — and that running them on sixteen carried leaders followed by a block of new scores
  gives the leaders of the longer list (`merge`).
-/
module

public import Mathlib.Data.EReal.Basic
public import Mathlib.Data.Fintype.EquivFin
public import Mathlib.Tactic.Linarith
public import Mathlib.Tactic.Tauto

@[expose] public section

namespace Cert.Select

/-- Position `a` comes strictly before position `b` in the ranking by `s`: a larger score, or an equal score and a
    smaller position. -/
def Ahead {ι : Type} [LT ι] (s : ι → EReal) (a b : ι) : Prop := s b < s a ∨ (s a = s b ∧ a < b)

theorem Ahead.trans {ι : Type} [Preorder ι] {s : ι → EReal} {a b c : ι} (h : Ahead s a b) (h' : Ahead s b c) :
    Ahead s a c := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem Ahead.ne {ι : Type} [Preorder ι] {s : ι → EReal} {a b : ι} (h : Ahead s a b) : a ≠ b := by
  rintro rfl
  rcases h with h | ⟨-, h⟩
  · exact lt_irrefl _ h
  · exact lt_irrefl _ h

/-- `σ` lists, in ranking order, the first sixteen of the positions below `n`. -/
structure Leaders (s : ℕ → EReal) (n : ℕ) (σ : Fin 16 → ℕ) : Prop where
  lt : ∀ j, σ j < n
  asc : ∀ i j, i < j → Ahead s (σ i) (σ j)
  dom : ∀ p, p < n → (∀ j, σ j ≠ p) → ∀ j, Ahead s (σ j) p

theorem Leaders.injective {s : ℕ → EReal} {n : ℕ} {σ : Fin 16 → ℕ} (h : Leaders s n σ) : Function.Injective σ := by
  intro i j hij
  rcases lt_trichotomy i j with hl | rfl | hl
  · exact absurd hij (h.asc i j hl).ne
  · rfl
  · exact absurd hij.symm (h.asc j i hl).ne

/-- A run of rounds over a row of `W` scores: `A r` is the row before round `r`, `q r` the position the round picks — a
    maximum, the leftmost — and the round overwrites it by `⊥`. -/
structure Rounds {W : ℕ} (A : ℕ → Fin W → EReal) (q : ℕ → Fin W) : Prop where
  max : ∀ r p, A r p ≤ A r (q r)
  first : ∀ r p, p < q r → A r p ≠ A r (q r)
  step : ∀ r p, A (r + 1) p = if p = q r then ⊥ else A r p

namespace Rounds

variable {W : ℕ} {A : ℕ → Fin W → EReal} {q : ℕ → Fin W}

/-- Before round `r` the positions picked so far hold `⊥` … -/
theorem picked (h : Rounds A q) (r j : ℕ) (hj : j < r) : A r (q j) = ⊥ := by
  induction r with
  | zero => omega
  | succ r ih =>
    rw [h.step]
    split
    · rfl
    · rcases Nat.lt_succ_iff_lt_or_eq.mp hj with hj | rfl
      · exact ih hj
      · contradiction

/-- … and every other position still holds its first score. -/
theorem kept (h : Rounds A q) (r : ℕ) (p : Fin W) (hp : ∀ j < r, q j ≠ p) : A r p = A 0 p := by
  induction r with
  | zero => rfl
  | succ r ih =>
    rw [h.step, if_neg fun e => hp r (Nat.lt_succ_self r) e.symm]
    exact ih fun j hj => hp j (Nat.lt_succ_of_lt hj)

/-- While fewer rounds than non-`⊥` scores have run, the next pick is not `⊥`. -/
theorem ne_bot (h : Rounds A q) {K : ℕ} (f : Fin K → Fin W) (hf : Function.Injective f) (hA : ∀ i, A 0 (f i) ≠ ⊥)
    (r : ℕ) (hr : r < K) : A r (q r) ≠ ⊥ := by
  have : ∃ i, ∀ j < r, q j ≠ f i := by
    by_contra hc
    push Not at hc
    choose e he hq using hc
    have hinj : Function.Injective fun i => (⟨e i, he i⟩ : Fin r) := by
      intro i i' hi
      have : e i = e i' := congrArg Fin.val hi
      exact hf (by rw [← hq i, ← hq i', this])
    have := Fintype.card_le_of_injective _ hinj
    simp only [Fintype.card_fin] at this
    omega
  obtain ⟨i, hi⟩ := this
  intro hb
  have := h.max r (f i)
  rw [h.kept r _ hi, hb, le_bot_iff] at this
  exact hA i this

variable (h : Rounds A q) {K : ℕ} (f : Fin K → Fin W) (hf : Function.Injective f) (hA : ∀ i, A 0 (f i) ≠ ⊥)
include h f hf hA

/-- A pick was not picked before. -/
theorem fresh (r : ℕ) (hr : r < K) (j : ℕ) (hj : j < r) : q j ≠ q r := fun e =>
  h.ne_bot f hf hA r hr (by rw [← e]; exact h.picked r j hj)

/-- The maximum a round finds is the first row's score at the pick. -/
theorem value (r : ℕ) (hr : r < K) : A r (q r) = A 0 (q r) := h.kept r _ (h.fresh f hf hA r hr)

theorem value_ne_bot (r : ℕ) (hr : r < K) : A 0 (q r) ≠ ⊥ := by
  rw [← h.value f hf hA r hr]; exact h.ne_bot f hf hA r hr

/-- A position not picked by round `r` ranks after round `r`'s pick. -/
theorem ahead (r : ℕ) (hr : r < K) (p : Fin W) (hp : ∀ j ≤ r, q j ≠ p) : Ahead (A 0) (q r) p := by
  have e : A r p = A 0 p := h.kept r p fun j hj => hp j hj.le
  have hm := h.max r p
  rw [e, h.value f hf hA r hr] at hm
  rcases lt_or_eq_of_le hm with hlt | heq
  · exact .inl hlt
  · refine .inr ⟨heq.symm, lt_of_le_of_ne (not_lt.mp fun hl => ?_) (hp r le_rfl)⟩
    exact h.first r p hl (by rw [e, h.value f hf hA r hr]; exact heq)

/-- The picks come in ranking order. -/
theorem asc (i j : ℕ) (hij : i < j) (hj : j < K) : Ahead (A 0) (q i) (q j) :=
  h.ahead f hf hA i (hij.trans hj) _ fun l hl => h.fresh f hf hA j hj l (hl.trans_lt hij)

/-- A position never picked ranks after every pick. -/
theorem dom (p : Fin W) (hp : ∀ j < K, q j ≠ p) (j : ℕ) (hj : j < K) : Ahead (A 0) (q j) p :=
  h.ahead f hf hA j hj p fun l hl => hp l (hl.trans_lt hj)

end Rounds

/-- Sixteen rounds over a row whose position `p` stands for document `T p` find the leaders of the documents below `n`,
    when the row's scores that are not `⊥` are the documents' scores, equal scores stand in document order, and every
    document below `n` is either in the row or ranks after sixteen documents of the row. -/
theorem merge {W : ℕ} {A : ℕ → Fin W → EReal} {q : ℕ → Fin W} (h : Rounds A q) (s : ℕ → EReal) (n : ℕ) (T : Fin W → ℕ)
    (f : Fin 16 → Fin W) (hf : Function.Injective f) (hA : ∀ i, A 0 (f i) ≠ ⊥)
    (hs : ∀ p, A 0 p ≠ ⊥ → T p < n ∧ s (T p) = A 0 p)
    (hmono : ∀ p p', A 0 p ≠ ⊥ → A 0 p' ≠ ⊥ → p < p' → A 0 p = A 0 p' → T p < T p')
    (hcov : ∀ d, d < n → (∃ p, A 0 p ≠ ⊥ ∧ T p = d) ∨ ∀ i, Ahead s (T (f i)) d) :
    Leaders s n fun j => T (q j) := by
  have hle : ∀ p p', A 0 p ≠ ⊥ → A 0 p' ≠ ⊥ → Ahead (A 0) p p' → Ahead s (T p) (T p') := by
    intro p p' hp hp' ha
    rcases ha with ha | ⟨ha, hl⟩
    · left; rw [(hs p hp).2, (hs p' hp').2]; exact ha
    · right; exact ⟨by rw [(hs p hp).2, (hs p' hp').2]; exact ha, hmono p p' hp hp' hl ha⟩
  have hq : ∀ j : Fin 16, A 0 (q j) ≠ ⊥ := fun j => h.value_ne_bot f hf hA j j.isLt
  refine ⟨fun j => (hs _ (hq j)).1, fun i j hij => hle _ _ (hq i) (hq j) (h.asc f hf hA i j hij j.isLt), ?_⟩
  intro d hd hne j
  rcases hcov d hd with ⟨p, hp, rfl⟩ | hall
  · exact hle _ _ (hq j) hp (h.dom f hf hA p (fun l hl e => hne ⟨l, hl⟩ (by rw [← e])) j j.isLt)
  · by_cases hc : ∃ i, q j = f i
    · obtain ⟨i, hi⟩ := hc
      have := hall i
      rwa [← hi] at this
    · have : ∃ i, ∀ l : Fin 16, q l ≠ f i := by
        by_contra hn
        push Not at hn
        choose e he using hn
        have hinj : Function.Injective e := fun i i' hi => hf (by rw [← he i, ← he i', hi])
        obtain ⟨i, hi⟩ := (Finite.injective_iff_surjective.mp hinj) j
        exact hc ⟨i, by rw [← he i, hi]⟩
      obtain ⟨i, hi⟩ := this
      exact (hle _ _ (hq j) (hA i) (h.dom f hf hA (f i) (fun l hl => hi ⟨l, hl⟩) j j.isLt)).trans (hall i)

end Cert.Select
-- ==== Proof.TopK.Tile.lean ====
/-
  What one grid point's sixteen rounds do to a row's running leaders.

  A row the rounds start from is the sixteen carried entries followed by the 2048 scores of the point's documents, with
  `⊥` for the documents from 100000 on. `first_tile`: at the first point of a row the carried entries are `⊥`, and the
  rounds find the leaders of the first 2048 documents. `next_tile`: at a later point they are the leaders of the
  documents before, and the rounds find the leaders of the documents up to the point's last.
-/
module

public import proofs.«01_k».proof.Proof.TopK.Select

@[expose] public section

namespace Cert.Select

/-- The document that position `p` of a row stands for, when `σ` lists the carried documents and `c` points came before. -/
def docOf (c : ℕ) (σ : Fin 16 → ℕ) (p : Fin 2064) : ℕ :=
  if h : p.val < 16 then σ ⟨p.val, h⟩ else 2048 * c + (p.val - 16)

/-- The score at position `p` of a row, when the carried entries are `v` and `c` points came before. -/
noncomputable def rowOf (s : ℕ → EReal) (c : ℕ) (v : Fin 16 → EReal) (p : Fin 2064) : EReal :=
  if h : p.val < 16 then v ⟨p.val, h⟩
  else if 2048 * c + (p.val - 16) < 100000 then s (2048 * c + (p.val - 16)) else ⊥

theorem docOf_old (c : ℕ) (σ : Fin 16 → ℕ) (p : Fin 2064) (h : p.val < 16) : docOf c σ p = σ ⟨p.val, h⟩ := dif_pos h

theorem docOf_new (c : ℕ) (σ : Fin 16 → ℕ) (p : Fin 2064) (h : ¬p.val < 16) : docOf c σ p = 2048 * c + (p.val - 16) :=
  dif_neg h

theorem rowOf_old (s : ℕ → EReal) (c : ℕ) (v : Fin 16 → EReal) (p : Fin 2064) (h : p.val < 16) :
    rowOf s c v p = v ⟨p.val, h⟩ := dif_pos h

theorem rowOf_new (s : ℕ → EReal) (c : ℕ) (v : Fin 16 → EReal) (p : Fin 2064) (h : ¬p.val < 16) :
    rowOf s c v p = if 2048 * c + (p.val - 16) < 100000 then s (2048 * c + (p.val - 16)) else ⊥ := dif_neg h

/-- A position past the carried ones that is not `⊥` stands for a document, with its score. -/
theorem rowOf_new_spec (s : ℕ → EReal) (c : ℕ) (v : Fin 16 → EReal) (p : Fin 2064) (h : ¬p.val < 16)
    (hb : rowOf s c v p ≠ ⊥) : 2048 * c + (p.val - 16) < 100000 ∧ rowOf s c v p = s (2048 * c + (p.val - 16)) := by
  rw [rowOf_new s c v p h] at hb ⊢
  by_cases hl : 2048 * c + (p.val - 16) < 100000
  · exact ⟨hl, if_pos hl⟩
  · exact absurd (if_neg hl) hb

variable {A : ℕ → Fin 2064 → EReal} {q : ℕ → Fin 2064}

/-- The first point of a row: the carried entries are `⊥`, whatever documents stand beside them, and the rounds find the
    leaders of the first 2048 documents, their scores, and positions past the carried ones. -/
theorem first_tile (h : Rounds A q) (s : ℕ → EReal) (hs : ∀ d, d < 100000 → s d ≠ ⊥) (σ : Fin 16 → ℕ)
    (hA : ∀ p, A 0 p = rowOf s 0 (fun _ => ⊥) p) :
    Leaders s 2048 (fun j => docOf 0 σ (q j)) ∧ ∀ j : Fin 16, A j (q j) = s (docOf 0 σ (q j)) := by
  have hnew : ∀ p, A 0 p ≠ ⊥ → ¬p.val < 16 := by
    intro p hp hl
    rw [hA, rowOf_old s 0 _ p hl] at hp
    exact hp rfl
  have hspec : ∀ p, A 0 p ≠ ⊥ → docOf 0 σ p < 2048 ∧ s (docOf 0 σ p) = A 0 p := by
    intro p hp
    have hn := hnew p hp
    rw [hA] at hp ⊢
    have := rowOf_new_spec s 0 _ p hn hp
    rw [docOf_new 0 σ p hn, this.2]
    exact ⟨by have := p.isLt; omega, rfl⟩
  have hcov : ∀ d (hd : d < 2048), A 0 ⟨16 + d, by omega⟩ ≠ ⊥ ∧ docOf 0 σ ⟨16 + d, by omega⟩ = d := by
    intro d hd
    have hn : ¬(⟨16 + d, by omega⟩ : Fin 2064).val < 16 := by dsimp only; omega
    rw [hA, rowOf_new s 0 _ _ hn, docOf_new 0 σ _ hn]
    have e : 2048 * 0 + (16 + d - 16) = d := by omega
    dsimp only
    rw [e, if_pos (by omega)]
    exact ⟨hs d (by omega), rfl⟩
  let f : Fin 16 → Fin 2064 := fun i => ⟨16 + i.val, by omega⟩
  have hf : Function.Injective f := fun i i' e => by
    have := congrArg Fin.val e
    exact Fin.ext (by simp only [f] at this; omega)
  have hfA : ∀ i, A 0 (f i) ≠ ⊥ := fun i => (hcov i.val (by omega)).1
  refine ⟨merge h s 2048 (docOf 0 σ) f hf hfA hspec ?_ fun d hd => .inl ⟨_, hcov d hd⟩, fun j => ?_⟩
  · intro p p' hp hp' hl _
    rw [docOf_new 0 σ p (hnew p hp), docOf_new 0 σ p' (hnew p' hp')]
    have := hnew p hp
    have hl : p.val < p'.val := hl
    omega
  · rw [h.value f hf hfA j j.isLt, (hspec _ (h.value_ne_bot f hf hfA j j.isLt)).2]

/-- A later point of a row: the carried entries are the leaders of the documents before the point, and the rounds find
    the leaders of the documents up to the point's last, and their scores. -/
theorem next_tile (h : Rounds A q) (s : ℕ → EReal) (hs : ∀ d, d < 100000 → s d ≠ ⊥) (c : ℕ) (hc : 2048 * c ≤ 100000)
    (σ : Fin 16 → ℕ) (hσ : Leaders s (2048 * c) σ) (hA : ∀ p, A 0 p = rowOf s c (fun j => s (σ j)) p) :
    Leaders s (min (2048 * (c + 1)) 100000) (fun j => docOf c σ (q j)) ∧ ∀ j : Fin 16, A j (q j) = s (docOf c σ (q j)) := by
  have hold : ∀ p (hl : p.val < 16), A 0 p = s (σ ⟨p.val, hl⟩) := fun p hl => by rw [hA, rowOf_old s c _ p hl]
  have hlt : ∀ j, σ j < 2048 * c := hσ.lt
  have hspec : ∀ p, A 0 p ≠ ⊥ → docOf c σ p < min (2048 * (c + 1)) 100000 ∧ s (docOf c σ p) = A 0 p := by
    intro p hp
    by_cases hl : p.val < 16
    · rw [docOf_old c σ p hl, hold p hl]
      have := hlt ⟨p.val, hl⟩
      exact ⟨lt_min (by omega) (by omega), rfl⟩
    · rw [hA] at hp ⊢
      have := rowOf_new_spec s c _ p hl hp
      rw [docOf_new c σ p hl, this.2]
      exact ⟨lt_min (by have := p.isLt; omega) this.1, rfl⟩
  let f : Fin 16 → Fin 2064 := fun i => ⟨i.val, by omega⟩
  have hf : Function.Injective f := fun i i' e => Fin.ext (show (f i).val = (f i').val by rw [e])
  have hfT : ∀ i, docOf c σ (f i) = σ i := fun i => docOf_old c σ (f i) i.isLt
  have hfA : ∀ i, A 0 (f i) ≠ ⊥ := fun i => by
    rw [hold (f i) i.isLt]
    exact hs _ (by have := hlt i; exact lt_of_lt_of_le this hc)
  refine ⟨merge h s _ (docOf c σ) f hf hfA hspec ?_ ?_, fun j => ?_⟩
  · intro p p' hp hp' hl he
    have hl : p.val < p'.val := hl
    by_cases h1 : p.val < 16
    · by_cases h2 : p'.val < 16
      · rw [docOf_old c σ p h1, docOf_old c σ p' h2]
        rcases hσ.asc ⟨p.val, h1⟩ ⟨p'.val, h2⟩ hl with ha | ⟨-, ha⟩
        · rw [hold p h1, hold p' h2] at he
          exact absurd he (ne_of_gt ha)
        · exact ha
      · rw [docOf_old c σ p h1, docOf_new c σ p' h2]
        have := hlt ⟨p.val, h1⟩
        omega
    · have h2 : ¬p'.val < 16 := by omega
      rw [docOf_new c σ p h1, docOf_new c σ p' h2]
      omega
  · intro d hd
    by_cases hj : ∃ j, σ j = d
    · obtain ⟨j, rfl⟩ := hj
      exact .inl ⟨f j, hfA j, hfT j⟩
    · push Not at hj
      by_cases hd' : d < 2048 * c
      · right
        intro i
        rw [hfT]
        exact hσ.dom d hd' hj i
      · left
        have hd1 : d < 2048 * (c + 1) := lt_of_lt_of_le hd (min_le_left _ _)
        have hd2 : d < 100000 := lt_of_lt_of_le hd (min_le_right _ _)
        have hn : ¬(⟨16 + (d - 2048 * c), by omega⟩ : Fin 2064).val < 16 := by dsimp only; omega
        refine ⟨⟨16 + (d - 2048 * c), by omega⟩, ?_, ?_⟩
        · rw [hA, rowOf_new s c _ _ hn]
          have e : 2048 * c + (16 + (d - 2048 * c) - 16) = d := by omega
          dsimp only
          rw [e, if_pos hd2]
          exact hs d hd2
        · rw [docOf_new c σ _ hn]
          dsimp only
          omega
  · rw [h.value f hf hfA j j.isLt, (hspec _ (h.value_ne_bot f hf hfA j j.isLt)).2]

end Cert.Select
-- ==== Proof.TopK.Score.lean ====
/-
  The score of a document for a query row, as a function of plain tables of extended reals, and its finiteness.
-/
module

public import Mathlib.Data.EReal.Operations
public import Mathlib.Algebra.BigOperators.Fin

@[expose] public section

noncomputable section

namespace Cert.Select

open scoped BigOperators

/-- An extended real that is a real number. -/
def IsReal (x : EReal) : Prop := x ≠ ⊥ ∧ x ≠ ⊤

theorem IsReal.exists_coe {x : EReal} (h : IsReal x) : ∃ r : ℝ, x = r := ⟨x.toReal, (EReal.coe_toReal h.2 h.1).symm⟩

theorem isReal_coe (r : ℝ) : IsReal (r : EReal) := ⟨EReal.coe_ne_bot r, EReal.coe_ne_top r⟩

theorem IsReal.mul {x y : EReal} (hx : IsReal x) (hy : IsReal y) : IsReal (x * y) := by
  obtain ⟨a, rfl⟩ := hx.exists_coe
  obtain ⟨b, rfl⟩ := hy.exists_coe
  rw [← EReal.coe_mul]
  exact isReal_coe _

theorem IsReal.add {x y : EReal} (hx : IsReal x) (hy : IsReal y) : IsReal (x + y) := by
  obtain ⟨a, rfl⟩ := hx.exists_coe
  obtain ⟨b, rfl⟩ := hy.exists_coe
  rw [← EReal.coe_add]
  exact isReal_coe _

theorem IsReal.sum {ι : Type} (S : Finset ι) (f : ι → EReal) (h : ∀ i ∈ S, IsReal (f i)) : IsReal (∑ i ∈ S, f i) := by
  classical
  induction S using Finset.induction with
  | empty => rw [Finset.sum_empty]; exact isReal_coe 0
  | insert a S ha ih =>
    rw [Finset.sum_insert ha]
    exact (h a (Finset.mem_insert_self a S)).add (ih fun i hi => h i (Finset.mem_insert_of_mem hi))

/-- Coordinate `e` of a query row after the projection. -/
def projected (q : Fin 128 → EReal) (W : Fin 128 → Fin 128 → EReal) (e : Fin 128) : EReal := ∑ k, q k * W e k

/-- The score of document `d` for a query row: the projected row against the document's key; `⊥` past the last document. -/
def score (q : Fin 128 → EReal) (W : Fin 128 → Fin 128 → EReal) (K : Fin 100000 → Fin 128 → EReal) (d : ℕ) : EReal :=
  if h : d < 100000 then ∑ e, projected q W e * K ⟨d, h⟩ e else ⊥

theorem score_of_lt (q : Fin 128 → EReal) (W : Fin 128 → Fin 128 → EReal) (K : Fin 100000 → Fin 128 → EReal) (d : ℕ)
    (h : d < 100000) : score q W K d = ∑ e, projected q W e * K ⟨d, h⟩ e := dif_pos h

/-- With real entries a document's score is not `⊥`. -/
theorem score_ne_bot (q : Fin 128 → EReal) (W : Fin 128 → Fin 128 → EReal) (K : Fin 100000 → Fin 128 → EReal)
    (hq : ∀ k, IsReal (q k)) (hW : ∀ e k, IsReal (W e k)) (hK : ∀ d k, IsReal (K d k)) (d : ℕ) (hd : d < 100000) :
    score q W K d ≠ ⊥ := by
  rw [score_of_lt q W K d hd]
  exact (IsReal.sum _ _ fun e _ => (IsReal.sum _ _ fun k _ => (hq k).mul (hW e k)).mul (hK ⟨d, hd⟩ e)).1

end Cert.Select
-- ==== Proof.TopK.RowRead.lean ====
/-
  The sixteen rounds, read one row at a time over the extended reals.

  Row `a` of the rows before round `r` is a function of the position alone; a round finds the row's maximum, the first
  position that holds it, and the document listed at that position, and overwrites the position by `-∞`. So the rows
  of the iteration are a run of `Cert.Select.Rounds` (`exists_rounds`), and the values and documents the point stores
  are the ones at the positions that run picks.
-/
module

public import proofs.«01_k».proof.Proof.TopK.Round
public import proofs.«01_k».proof.Proof.TopK.Select
public import Idealize.ShloMosaic.Lib.ValueIdx
public import Idealize.ShloMosaic.PureOps.Ideal.Laws

@[expose] public section

noncomputable section

namespace Cert.KernelIdeal.TopK

open Idealize.ShloMosaic Idealize.ShloMosaic.ValueIdx
open Cert.KernelIdeal Cert.KernelIdeal.Gen
open Cert.Select

/-- The word of `-∞` is `⊥`. -/
theorem negInf_eq : (FloatOps.ofBits FTy.f32 0xFF800000#32 : Ideal .f32) = (⊥ : EReal) := by
  show Ideal.ieee 8 23 (0xFF800000#32) = ⊥
  simp [Ideal.ieee]

/-! ## Folds of a maximum and of a least word -/

/-- A fold of `max` from `⊥` over a nonempty finite type is an upper bound that is attained. -/
theorem fold_max_spec {W : ℕ} (hW : 0 < W) (f : Fin W → EReal) (M : EReal)
    (hM : M = (Finset.univ : Finset (Fin W)).fold max ⊥ f) : (∀ p, f p ≤ M) ∧ ∃ p, M = f p := by
  have hs : M = Finset.univ.sup f := hM
  refine ⟨fun p => hs ▸ Finset.le_sup (Finset.mem_univ p), ?_⟩
  obtain ⟨p, -, hp⟩ := Finset.exists_mem_eq_sup Finset.univ ⟨(⟨0, hW⟩ : Fin W), Finset.mem_univ _⟩ f
  exact ⟨p, hs.trans hp⟩

/-- The lesser of two words, read as signed numbers. -/
theorem minsi_spec (x y : BitVec 32) :
    (IntOp.minsi x y).toInt ≤ x.toInt ∧ (IntOp.minsi x y).toInt ≤ y.toInt ∧ (IntOp.minsi x y = x ∨ IntOp.minsi x y = y) := by
  unfold IntOp.minsi
  by_cases h : x.slt y
  · rw [if_pos h]
    have := BitVec.slt_iff_toInt_lt.1 h
    exact ⟨le_refl _, this.le, .inl rfl⟩
  · rw [if_neg h]
    have : ¬ x.toInt < y.toInt := fun h' => h (BitVec.slt_iff_toInt_lt.2 h')
    exact ⟨not_lt.1 this, le_refl _, .inr rfl⟩

/-- A fold of the lesser word is below its start and every member, and is one of them. -/
theorem fold_minsi_spec {ι : Type} [DecidableEq ι] (g : ι → BitVec 32) (b : BitVec 32) (S : Finset ι) :
    (S.fold IntOp.minsi b g).toInt ≤ b.toInt ∧ (∀ p ∈ S, (S.fold IntOp.minsi b g).toInt ≤ (g p).toInt) := by
  induction S using Finset.induction with
  | empty => exact ⟨le_refl _, fun p hp => absurd hp (Finset.notMem_empty p)⟩
  | insert a S ha ih =>
    rw [Finset.fold_insert ha]
    have h := minsi_spec (g a) (S.fold IntOp.minsi b g)
    refine ⟨h.2.1.trans ih.1, fun p hp => ?_⟩
    rcases Finset.mem_insert.1 hp with rfl | hp
    · exact h.1
    · exact h.2.1.trans (ih.2 p hp)

/-- A fold of the lesser word is at least any bound of its start and every member. -/
theorem le_fold_minsi {ι : Type} [DecidableEq ι] (g : ι → BitVec 32) (b : BitVec 32) (S : Finset ι) (z : ℤ)
    (hb : z ≤ b.toInt) (hg : ∀ p ∈ S, z ≤ (g p).toInt) : z ≤ (S.fold IntOp.minsi b g).toInt := by
  induction S using Finset.induction with
  | empty => exact hb
  | insert a S ha ih =>
    rw [Finset.fold_insert ha]
    rcases (minsi_spec (g a) (S.fold IntOp.minsi b g)).2.2 with h | h <;> rw [h]
    · exact hg a (Finset.mem_insert_self a S)
    · exact ih fun p hp => hg p (Finset.mem_insert_of_mem hp)

/-- A fold of the lesser word from the largest word is the member that is least. -/
theorem fold_minsi_eq {W : ℕ} (g : Fin W → BitVec 32) (p₀ : Fin W) (h : ∀ p, (g p₀).toInt ≤ (g p).toInt) :
    (Finset.univ : Finset (Fin W)).fold IntOp.minsi 2147483647#32 g = g p₀ := by
  apply BitVec.eq_of_toInt_eq
  apply le_antisymm
  · exact (fold_minsi_spec g _ _).2 p₀ (Finset.mem_univ _)
  · refine le_fold_minsi g _ _ _ ?_ fun p _ => h p
    have : (g p₀).toInt < 2 ^ 31 := BitVec.toInt_lt
    have e : (2147483647#32).toInt = 2147483647 := by decide
    rw [e]; omega

/-- A word below `2^31` read as a signed number is the number itself. -/
theorem toInt_small {x : BitVec 32} (h : x.toNat < 2 ^ 31) : x.toInt = x.toNat := by
  rw [BitVec.toInt_eq_toNat_cond, if_pos (by omega)]

/-! ## One round, at an element -/

/-- A column spread over a row's positions reads the column. -/
theorem spread_apply {α : Type} (v : S256x1.Idx → α) (a : Fin 256) (p : Fin 2064) :
    broadcastTo S256x2064 v broadcasts_S256x1_S256x2064 (ix2 a p) = v (ix2 a 0) := by
  refine broadcastTo_apply v _ (ix2 a p) (ix2 a 0) fun ax => ?_
  match ax with
  | ⟨0, _⟩ => rfl
  | ⟨1, _⟩ => rfl

/-- A vector of row results read as a column. -/
theorem column_apply {α : Type} (v : S256.Idx → α) (a : Fin 256) :
    shapeCast S256x1 v shapeCasts_S256_S256x1 (ix2 a 0) = v (ix1 a) := by
  refine shapeCast_apply v _ _ _ ?_
  rw [Shape.rowMajor_val_two, Shape.rowMajor_val_one]
  show a.val = a.val * 1 + 0
  omega

/-- The position a row reduction's operand is read at. -/
theorem lift_row (a : Fin 256) (p : Fin 2064) : reduces_S256x2064_S256.lift (ix1 a) p = ix2 a p := by
  funext c
  match c with
  | ⟨0, _⟩ => rfl
  | ⟨1, _⟩ => rfl

/-- The word at position `p` is `p`. -/
theorem places_apply (a : Fin 256) (p : Fin 2064) : places (ix2 a p) = BitVec.ofNat 32 p.val := by
  unfold places
  exact iota_single_apply _ _ _ _ _ _

/-- A row's maximum is an upper bound of the row, attained. -/
theorem rowMax_spec (x : FVec Ideal S256x2064 .f32) (a : Fin 256) :
    (∀ p : Fin 2064, x (ix2 a p) ≤ rowMax x (ix2 a 0)) ∧ ∃ p : Fin 2064, rowMax x (ix2 a 0) = x (ix2 a p) := by
  refine fold_max_spec (by norm_num) (fun p : Fin 2064 => x (ix2 a p)) _ ?_
  unfold rowMax
  rw [column_apply]
  refine (Ideal.multiReduction_maximumf_single x _ _ _ rfl (ix1 a)).trans ?_
  have e : (x ∘ reduces_S256x2064_S256.lift (ix1 a)) = fun p : Fin 2064 => x (ix2 a p) :=
    funext fun p => congrArg x (lift_row a p)
  rw [e, show (FloatOps.ofBits FTy.f32 (FKind.maximumf.neutral FTy.f32 (.inl rfl)) : Ideal .f32) = (⊥ : EReal) from negInf_eq]
  rfl

/-- The least of the words set by a mask, where every set word is below `2^30` and one of them is least. -/
theorem leastWhere_apply (b : IVec S256x2064 1) (y : IVec S256x2064 32) (a : Fin 256) (p₀ : Fin 2064)
    (hb : b (ix2 a p₀) = 1#1) (hy : (y (ix2 a p₀)).toNat < 2 ^ 30)
    (h : ∀ p : Fin 2064, b (ix2 a p) = 1#1 → (y (ix2 a p)).toNat < 2 ^ 30 ∧ (y (ix2 a p₀)).toNat ≤ (y (ix2 a p)).toNat) :
    leastWhere b y (ix2 a 0) = y (ix2 a p₀) := by
  unfold leastWhere
  rw [column_apply]
  refine ((multiReductionI_eq_fold IKind.minsi _ _ reduces_S256x2064_S256 rfl (ix1 a)).trans
    (Shape.Reduces.fold_filter_drop_single reduces_S256x2064_S256 _ _ _ (ix1 a))).trans ?_
  have e : ((select b y (broadcast S256x2064 1073741824#32)) ∘ reduces_S256x2064_S256.lift (ix1 a))
      = fun p : Fin 2064 => if b (ix2 a p) = 1#1 then y (ix2 a p) else 1073741824#32 := by
    refine funext fun (p : Fin 2064) => ?_
    refine (congrArg (select b y (broadcast S256x2064 1073741824#32)) (lift_row a p)).trans ?_
    rw [select_apply, broadcast_apply]
    by_cases hp : b (ix2 a p) = 1#1
    · rw [if_pos hp, hp, select_one]
    · rw [if_neg hp, eq_zero_of_ne_one hp, select_zero]
  rw [e]
  refine (fold_minsi_eq (fun p : Fin 2064 => if b (ix2 a p) = 1#1 then y (ix2 a p) else 1073741824#32) p₀ ?_).trans ?_
  · intro p
    simp only [hb, if_true]
    rw [toInt_small (by omega)]
    by_cases hp : b (ix2 a p) = 1#1
    · rw [if_pos hp, toInt_small (by have := (h p hp).1; omega)]
      exact_mod_cast (h p hp).2
    · rw [if_neg hp]
      have e : (1073741824#32).toInt = 1073741824 := by decide
      rw [e]; omega
  · simp only [hb, if_true]

/-- What a round picks in a row: the first position that holds the row's maximum. -/
theorem exists_pick (x : FVec Ideal S256x2064 .f32) (a : Fin 256) :
    ∃ q : Fin 2064, (∀ p : Fin 2064, x (ix2 a p) ≤ x (ix2 a q)) ∧ (∀ p : Fin 2064, p < q → x (ix2 a p) ≠ x (ix2 a q))
      ∧ rowMax x (ix2 a 0) = x (ix2 a q) ∧ firstAt x (ix2 a 0) = BitVec.ofNat 32 q.val := by
  obtain ⟨hle, p₁, hp₁⟩ := rowMax_spec x a
  let S : Finset (Fin 2064) := Finset.univ.filter fun p => x (ix2 a p) = rowMax x (ix2 a 0)
  have hS : S.Nonempty := ⟨p₁, Finset.mem_filter.2 ⟨Finset.mem_univ _, hp₁.symm⟩⟩
  have hq : x (ix2 a (S.min' hS)) = rowMax x (ix2 a 0) := (Finset.mem_filter.1 (S.min'_mem hS)).2
  have hmin : ∀ p : Fin 2064, x (ix2 a p) = rowMax x (ix2 a 0) → S.min' hS ≤ p := fun p hp =>
    S.min'_le p (Finset.mem_filter.2 ⟨Finset.mem_univ _, hp⟩)
  generalize S.min' hS = q at hq hmin
  refine ⟨q, fun p => hq ▸ hle p, fun p hp h => absurd (hmin p (h.trans hq)) (not_le.2 hp), hq.symm, ?_⟩
  have hcmp : ∀ p : Fin 2064, cmpf .oeq x (broadcastTo S256x2064 (rowMax x) broadcasts_S256x1_S256x2064) (ix2 a p)
      = BitVec.ofBool (decide (x (ix2 a p) = rowMax x (ix2 a 0))) := by
    intro p
    rw [cmpf_apply, spread_apply]
    rfl
  have hw : ∀ p : Fin 2064, (places (ix2 a p)).toNat = p.val := by
    intro p
    rw [places_apply, BitVec.toNat_ofNat]
    exact Nat.mod_eq_of_lt (by have := p.isLt; omega)
  have hlt : ∀ p : Fin 2064, p.val < 2 ^ 30 := fun p => by have := p.isLt; omega
  rw [← places_apply a q]
  unfold firstAt
  refine leastWhere_apply _ _ a q ?_ ?_ fun p hp => ⟨?_, ?_⟩
  · rw [hcmp, decide_eq_true hq]; rfl
  · rw [hw]; exact hlt q
  · rw [hw]; exact hlt p
  · rw [hw, hw]
    refine hmin p ?_
    rw [hcmp] at hp
    by_contra hne
    rw [decide_eq_false hne] at hp
    exact absurd hp (by decide)

/-- The mask of a round's pick is set at the pick only. -/
theorem mask_apply (x : FVec Ideal S256x2064 .f32) (a : Fin 256) (q : Fin 2064)
    (hq : firstAt x (ix2 a 0) = BitVec.ofNat 32 q.val) (p : Fin 2064) :
    mask x (ix2 a p) = if p = q then 1#1 else 0#1 := by
  have e : mask x (ix2 a p) = IntOp.cmpi .eq (BitVec.ofNat 32 p.val) (BitVec.ofNat 32 q.val) := by
    unfold mask
    show IntOp.cmpi .eq (places (ix2 a p)) (broadcastTo S256x2064 (firstAt x) broadcasts_S256x1_S256x2064 (ix2 a p)) = _
    rw [places_apply, spread_apply, hq]
  rw [e]
  by_cases h : p = q
  · subst h; rw [if_pos rfl]; simp [IntOp.cmpi]
  · rw [if_neg h]
    have : (BitVec.ofNat 32 p.val : BitVec 32) ≠ BitVec.ofNat 32 q.val := by
      intro h'
      apply h
      have := congrArg BitVec.toNat h'
      rw [BitVec.toNat_ofNat, BitVec.toNat_ofNat] at this
      have := p.isLt; have := q.isLt
      exact Fin.ext (by omega)
    show BitVec.ofBool (BitVec.ofNat 32 p.val == BitVec.ofNat 32 q.val) = 0#1
    rw [beq_eq_false_iff_ne.2 this]
    rfl

/-- A round overwrites its pick by `⊥` and leaves the rest. -/
theorem clear_apply (x : FVec Ideal S256x2064 .f32) (a : Fin 256) (q : Fin 2064)
    (hq : firstAt x (ix2 a 0) = BitVec.ofNat 32 q.val) (p : Fin 2064) :
    clear x (ix2 a p) = if p = q then (⊥ : EReal) else x (ix2 a p) := by
  unfold clear
  rw [select_apply, mask_apply x a q hq p]
  by_cases h : p = q
  · rw [if_pos h, if_pos h, select_one]
    exact negInf_eq
  · rw [if_neg h, if_neg h, select_zero]

/-- A round reads off the document listed at its pick. -/
theorem docAt_apply (x : FVec Ideal S256x2064 .f32) (ids : IVec S256x2064 32) (a : Fin 256) (q : Fin 2064)
    (hq : firstAt x (ix2 a 0) = BitVec.ofNat 32 q.val) (hids : (ids (ix2 a q)).toNat < 2 ^ 30) :
    docAt ids x (ix2 a 0) = ids (ix2 a q) := by
  unfold docAt
  refine leastWhere_apply _ _ a q ?_ hids fun p hp => ?_
  · rw [mask_apply x a q hq, if_pos rfl]
  · rw [mask_apply x a q hq] at hp
    by_cases h : p = q
    · subst h; exact ⟨hids, le_refl _⟩
    · rw [if_neg h] at hp
      exact absurd hp (by decide)

/-! ## The sixteen rounds -/

/-- The sixteen columns side by side, read at one of them. -/
theorem sixteen_apply {α : Type} (f : ℕ → (S256x1.Idx → α))
    (h : Shape.Concatenates ((List.ofFn fun n : Fin 16 => (⟨S256x1, f n.val⟩ : (s : Shape) × (s.Idx → α))).map (·.1)) S256x16 1)
    (a : Fin 256) (j : Fin 16) :
    concatenate S256x16 1 (List.ofFn fun n : Fin 16 => (⟨S256x1, f n.val⟩ : (s : Shape) × (s.Idx → α))) h (ix2 a j)
      = f j.val (ix2 a 0) := by
  refine concatenate_ofFn_unit_apply (t := S256x16) 1 (fun n : Fin 16 => f n.val) h rfl rfl (ix2 a j) j rfl (ix2 a 0) fun b hb => ?_
  match b with
  | ⟨0, _⟩ => rfl
  | ⟨1, _⟩ => exact absurd rfl hb

/-- The maxima stored for row `a` are the rounds' maxima in order. -/
theorem newVals_apply (x : FVec Ideal S256x2064 .f32) (a : Fin 256) (j : Fin 16) :
    newVals x (ix2 a j) = rowMax (after x j.val) (ix2 a 0) :=
  sixteen_apply (fun r => rowMax (after x r)) concatenates_S256x1_S256x1_S256x1_S256x1_S256x1_S256x1_S256x1_S256x1_S256x1_S256x1_S256x1_S256x1_S256x1_S256x1_S256x1_S256x1_S256x16_d1 a j

/-- The documents stored for row `a` are the rounds' documents in order. -/
theorem newDocs_apply (ids : IVec S256x2064 32) (x : FVec Ideal S256x2064 .f32) (a : Fin 256) (j : Fin 16) :
    newDocs ids x (ix2 a j) = docAt ids (after x j.val) (ix2 a 0) :=
  sixteen_apply (fun r => docAt ids (after x r)) concatenates_S256x1_S256x1_S256x1_S256x1_S256x1_S256x1_S256x1_S256x1_S256x1_S256x1_S256x1_S256x1_S256x1_S256x1_S256x1_S256x1_S256x16_d1 a j

/-- Row `a` of the iteration is a run of rounds, and what a grid point stores for the row — the maxima, and the
    documents of any list `ids` of words below `2^30` — is what the run picks. -/
theorem exists_rounds (x : FVec Ideal S256x2064 .f32) (ids : IVec S256x2064 32) (a : Fin 256)
    (hids : ∀ p : Fin 2064, (ids (ix2 a p)).toNat < 2 ^ 30) :
    ∃ q : ℕ → Fin 2064, Rounds (fun r (p : Fin 2064) => (after x r (ix2 a p) : EReal)) q
      ∧ (∀ j : Fin 16, newVals x (ix2 a j) = after x j.val (ix2 a (q j.val)))
      ∧ ∀ j : Fin 16, newDocs ids x (ix2 a j) = ids (ix2 a (q j.val)) := by
  choose q hmax hfirst hval hat using fun r => exists_pick (after x r) a
  refine ⟨q, ⟨hmax, hfirst, fun r p => clear_apply (after x r) a (q r) (hat r) p⟩, fun j => ?_, fun j => ?_⟩
  · rw [newVals_apply]; exact hval j.val
  · rw [newDocs_apply]; exact docAt_apply _ ids a _ (hat j.val) (hids _)

end Cert.KernelIdeal.TopK
-- ==== Proof.TopK.Start.lean ====
/-
  The row a grid point's rounds start from, read at an element over the extended reals: the carried sixteen entries,
  then the products of the projected queries with the point's keys, masked past the last document.
-/
module

public import proofs.«01_k».proof.Proof.Gen.KernelIdeal.Skeleton
public import proofs.«01_k».proof.Proof.TopK.Score
public import proofs.«01_k».proof.Proof.TopK.RowRead
public import Idealize.ShloMosaic.Lib.MatmulPlain

@[expose] public section

noncomputable section

namespace Cert.KernelIdeal.TopK

open Idealize.ShloMosaic Idealize.ShloMosaic.ValueIdx
open Cert.KernelIdeal Cert.KernelIdeal.Gen
open scoped BigOperators

/-- The zero accumulator. -/
theorem zero_eq : (FloatOps.ofBits FTy.f32 0x00000000#32 : Ideal .f32) = (0 : EReal) := by
  show Ideal.ieee 8 23 (0x00000000#32) = 0
  simp [Ideal.ieee]

/-- The projected queries at row `a`, coordinate `e`. -/
theorem proj_apply (q : Vec Ideal S256x128 .f32) (W : Vec Ideal S128x128 .f32) (a : Fin 256) (e : Fin 128) :
    k0_pay3 (F := Ideal) q W (ix2 a e) = Cert.Select.projected (fun k => q (ix2 a k)) (fun e k => W (ix2 e k)) e := by
  unfold k0_pay3
  dsimp only
  rw [shapeCast_self]
  refine (Ideal.matmul_plain_apply (M := 256) (K := 128) (N := 128) none q _ _ a e).trans ?_
  refine (congrArg (· + _) zero_eq).trans ((zero_add _).trans (Finset.sum_congr rfl fun k _ => ?_))
  refine congrArg (q (ix2 a k) * ·) (transpose_apply [1, 0] W transposes_S128x128_p1_0_S128x128 (ix2 k e) (ix2 e k) fun b => ?_)
  match b with
  | ⟨0, _⟩ => rfl
  | ⟨1, _⟩ => rfl

/-- Document numbers in a point's block, as words. -/
theorem col_apply (i : grid0.Coords) (a : Fin 256) (p : Fin 2048) :
    k0_pay6 i (ix2 a p) = BitVec.ofNat 32 (2048 * (i 1).val + p.val) := by
  unfold k0_pay6
  dsimp only
  show (iota .tc S256x2048 32 [1] iota_S256x2048_d1_w32) (ix2 a p) + BitVec.ofNat 32 (i 1).val * 2048#32 = _
  rw [show (iota .tc S256x2048 32 [1] iota_S256x2048_d1_w32) (ix2 a p) = BitVec.ofNat 32 p.val from
    iota_single_apply _ _ _ _ _ _]
  apply BitVec.eq_of_toNat_eq
  simp only [BitVec.toNat_add, BitVec.toNat_mul, BitVec.toNat_ofNat]
  omega

/-- The sixteen carried entries and a block of 2048, side by side, read at a position. -/
theorem beside_apply {α : Type} (x : S256x16.Idx → α) (y : S256x2048.Idx → α) (a : Fin 256) (p : Fin 2064) :
    concatenate S256x2064 1 [⟨S256x16, x⟩, ⟨S256x2048, y⟩] concatenates_S256x16_S256x2048_S256x2064_d1 (ix2 a p)
      = if h : p.val < 16 then x (ix2 a ⟨p.val, h⟩) else y (ix2 a ⟨p.val - 16, by have := p.isLt; omega⟩) := by
  by_cases h : p.val < 16
  · rw [dif_pos h]
    refine concatenate_pair_apply_left (t := S256x2064) 1 x y _ (ix2 a p) rfl (ix2 a ⟨p.val, h⟩) fun b => ?_
    match b with
    | ⟨0, _⟩ => rfl
    | ⟨1, _⟩ => rfl
  · rw [dif_neg h]
    refine concatenate_pair_apply_right (t := S256x2064) 1 x y _ (ix2 a p) rfl rfl (ix2 a ⟨p.val - 16, by have := p.isLt; omega⟩) (fun b hb => ?_) ?_
    · match b with
      | ⟨0, _⟩ => rfl
      | ⟨1, _⟩ => exact absurd rfl hb
    · show p.val - 16 + 16 = p.val
      omega

/-- The documents listed beside the row. -/
theorem docs_apply (i : grid0.Coords) (v : Vec Ideal S256x16 .i32) (a : Fin 256) (p : Fin 2064) :
    k0_pay8 (F := Ideal) i v (ix2 a p)
      = if h : p.val < 16 then v (ix2 a ⟨p.val, h⟩) else BitVec.ofNat 32 (2048 * (i 1).val + (p.val - 16)) := by
  unfold k0_pay8
  dsimp only
  rw [beside_apply]
  by_cases h : p.val < 16
  · rw [dif_pos h, dif_pos h]
  · rw [dif_neg h, dif_neg h, col_apply]

/-- The scores of the row. -/
theorem row_apply (i : grid0.Coords) (pq : Vec Ideal S256x128 .f32) (K : Vec Ideal S2048x128 .f32) (v : Vec Ideal S256x16 .f32)
    (a : Fin 256) (p : Fin 2064) :
    k0_pay7 (F := Ideal) i pq K v (ix2 a p)
      = if h : p.val < 16 then v (ix2 a ⟨p.val, h⟩)
        else if 2048 * (i 1).val + (p.val - 16) < 100000 then
          ∑ e : Fin 128, (pq (ix2 a e) * K (ix2 ⟨p.val - 16, by have := p.isLt; omega⟩ e) : EReal)
        else (⊥ : EReal) := by
  unfold k0_pay7
  dsimp only
  rw [beside_apply]
  by_cases h : p.val < 16
  · rw [dif_pos h, dif_pos h]
  · rw [dif_neg h, dif_neg h, select_apply]
    have hi : (i 1).val < 49 := (i 1).isLt
    have hp := p.isLt
    have hc : cmpi .slt (k0_pay6 i) (broadcast S256x2048 100000#32) (ix2 a ⟨p.val - 16, by omega⟩)
        = BitVec.ofBool (decide (2048 * (i 1).val + (p.val - 16) < 100000)) := by
      show BitVec.ofBool ((k0_pay6 i (ix2 a ⟨p.val - 16, by omega⟩)).slt 100000#32) = _
      rw [col_apply]
      congr 1
      have e : (BitVec.ofNat 32 (2048 * (i 1).val + (p.val - 16)) : BitVec 32).toInt = ((2048 * (i 1).val + (p.val - 16) : ℕ) : ℤ) := by
        rw [toInt_small (by rw [BitVec.toNat_ofNat]; omega), BitVec.toNat_ofNat]
        exact congrArg _ (Nat.mod_eq_of_lt (by omega))
      have e' : (100000#32 : BitVec 32).toInt = 100000 := by decide
      rw [BitVec.slt, e, e']
      exact decide_eq_decide.2 (by omega)
    rw [hc]
    by_cases hl : 2048 * (i 1).val + (p.val - 16) < 100000
    · rw [decide_eq_true hl, if_pos hl]
      refine (select_one _ _).trans ?_
      rw [shapeCast_self]
      refine (Ideal.matmul_transposedRhs_apply (M := 256) (K := 128) (N := 2048) none pq K _ a _).trans ?_
      exact (congrArg (· + _) zero_eq).trans (zero_add _)
    · rw [decide_eq_false hl, if_neg hl]
      exact (select_zero _ _).trans negInf_eq

end Cert.KernelIdeal.TopK
-- ==== Proof.TopK.Blocks.lean ====
/-
  The blocks a grid point reads, as elements of the program's arguments.

  Point `t` is corpus tile `t % 49` of query tile `t / 49`. The keys are read through the padded array the host builds
  before the region; below row 100000 that array is the argument.
-/
module

public import proofs.«01_k».proof.Proof.Gen.KernelIdeal.Frame
public import Idealize.ShloMosaic.Lib.Pipeline.Value
public import Idealize.ShloMosaic.Lib.KernelVsHost
public import Idealize.ShloMosaic.Lib.StableHlo.Run

@[expose] public section

noncomputable section

namespace Cert.KernelIdeal.TopK

open Idealize.ShloMosaic Idealize.ShloMosaic.TcCoe Idealize.SL.Sem Idealize.ShloMosaic.ValueIdx
open Cert.KernelIdeal Cert.KernelIdeal.Gen

theorem point_lt (t : Fin cfg0.N) : t.val < 784 := lt_of_lt_of_eq t.isLt N_0

/-- The query tile of a point … -/
theorem coord_query (t : Fin cfg0.N) : (grid0.coords t 0).val = t.val / 49 := by
  have h := point_lt t
  exact (Pipeline.Grid.coords_val t 0 (S := 49) (B := 16) (by decide) rfl).trans (by omega)

/-- … and its corpus tile. -/
theorem coord_corpus (t : Fin cfg0.N) : (grid0.coords t 1).val = t.val % 49 := by
  exact (Pipeline.Grid.coords_val t 1 (S := 1) (B := 49) (by decide) rfl).trans (by rw [Nat.div_one])

theorem word_query (t : Fin cfg0.N) : (BitVec.ofNat 32 (grid0.coords t 0).val).toNat = t.val / 49 := by
  have h := point_lt t
  rw [coord_query, BitVec.toNat_ofNat]
  omega

theorem word_corpus (t : Fin cfg0.N) : (BitVec.ofNat 32 (grid0.coords t 1).val).toNat = t.val % 49 := by
  rw [coord_corpus, BitVec.toNat_ofNat]
  omega

variable {F : FTy → Type} [FloatOps F] (m : (ℓ : Loc nD τ sig) → Buf (Elt F) ℓ)

/-- The query block of a point. -/
theorem query_apply (c : Dev nD) (t : Fin cfg0.N) (a : Fin 256) (k : Fin 128) :
    (iblk m c 0 t : Vec F S256x128 .f32) (ix2 a k)
      = (m ((c : Thread nD τ).loc main_arg0) : Vec F S4096x128 .f32)
          (ix2 ⟨256 * (t.val / 49) + a.val, by have := point_lt t; have := a.isLt; omega⟩ k) := by
  unfold iblk
  rw [View.read_apply]
  refine (congrFun (V_main_arg0 m c) _).trans (congrArg _ ?_)
  funext b
  apply Fin.ext
  match b with
  | ⟨0, _⟩ =>
    show (BitVec.ofNat 32 (grid0.coords t 0).val).toNat * 256 + 1 * a.val = 256 * (t.val / 49) + a.val
    rw [word_query]; omega
  | ⟨1, _⟩ =>
    show (0#32).toNat * 128 + 1 * k.val = k.val
    rw [show (0#32).toNat = 0 from rfl]; omega

/-- The projection matrix is read whole. -/
theorem weight_apply (c : Dev nD) (t : Fin cfg0.N) (e k : Fin 128) :
    (iblk m c 1 t : Vec F S128x128 .f32) (ix2 e k)
      = (m ((c : Thread nD τ).loc main_arg1) : Vec F S128x128 .f32) (ix2 e k) := by
  unfold iblk
  rw [View.read_apply]
  refine (congrFun (V_main_arg1 m c) _).trans (congrArg _ ?_)
  funext b
  apply Fin.ext
  match b with
  | ⟨0, _⟩ =>
    show (0#32).toNat * 128 + 1 * e.val = e.val
    rw [show (0#32).toNat = 0 from rfl]; omega
  | ⟨1, _⟩ =>
    show (0#32).toNat * 128 + 1 * k.val = k.val
    rw [show (0#32).toNat = 0 from rfl]; omega

/-- The padded keys. -/
theorem V_keys (c : Dev nD) : V m c main_v0
    = pad S100352x128 ![0, 0] ![352, 0] ![0, 0] (m ((c : Thread nD τ).loc main_arg2))
        (sitofp .f32 (constantI S_ 32 0#32)) pads_S100000x128_S100352x128_03520_000 h_S_ := by
  show StableHlo.after (List.flatten [hostOps0, hostOps0_1]) (fun b => m (c, b)) (Proc.devRef .tc main_v0) = _
  simp only [hostOps0, hostOps0_1, List.flatten_cons, List.flatten_nil, List.append_nil, List.cons_append,
    List.nil_append, StableHlo.TRef.binary, StableHlo.TRef.nullary, StableHlo.TRef.ternary, StableHlo.TRef.unary,
    StableHlo.TRef.toBuf, StableHlo.TRef.ofBuf, cast_eq]
  after_results <;> rfl

/-- The key block of a point, at a row that is a document. -/
theorem key_apply (c : Dev nD) (t : Fin cfg0.N) (p : Fin 2048) (e : Fin 128) (h : 2048 * (t.val % 49) + p.val < 100000) :
    (iblk m c 2 t : Vec F S2048x128 .f32) (ix2 p e)
      = (m ((c : Thread nD τ).loc main_arg2) : Vec F S100000x128 .f32) (ix2 ⟨2048 * (t.val % 49) + p.val, h⟩ e) := by
  unfold iblk
  rw [View.read_apply]
  refine (congrFun (V_keys m c) _).trans ?_
  refine pad_apply_of_inside (s := S100000x128) _ _ _ _ _ _ _ _ (ix2 ⟨2048 * (t.val % 49) + p.val, h⟩ e) fun b => ?_
  match b with
  | ⟨0, _⟩ =>
    show (BitVec.ofNat 32 (grid0.coords t 1).val).toNat * 2048 + 1 * p.val = 0 + (2048 * (t.val % 49) + p.val) * (0 + 1)
    rw [word_corpus]; omega
  | ⟨1, _⟩ =>
    show (0#32).toNat * 128 + 1 * e.val = 0 + e.val * (0 + 1)
    rw [show (0#32).toNat = 0 from rfl]; omega

end Cert.KernelIdeal.TopK
-- ==== Proof.TopK.Scan.lean ====
/-
  The scan over the corpus tiles: after each grid point the carried buffers hold, per query row, the sixteen leaders of
  the documents seen so far in that row of query tiles — by induction on the point.
-/
module

public import proofs.«01_k».proof.Proof.TopK.Body
public import proofs.«01_k».proof.Proof.TopK.Tile
public import proofs.«01_k».proof.Proof.TopK.Start
public import proofs.«01_k».proof.Proof.TopK.Blocks

@[expose] public section

noncomputable section

namespace Cert.KernelIdeal.TopK

open Idealize.ShloMosaic Idealize.ShloMosaic.TcCoe Idealize.SL.Sem Idealize.ShloMosaic.ValueIdx
open Cert.KernelIdeal Cert.KernelIdeal.Gen Cert.Select

variable (m : (ℓ : Loc nD τ sig) → Buf (Elt Ideal) ℓ) (c : Dev nD)

/-- A row of the queries. -/
def queryRow (r : Fin 4096) (k : Fin 128) : EReal := (m ((c : Thread nD τ).loc main_arg0) : Vec Ideal S4096x128 .f32) (ix2 r k)

/-- The projection matrix. -/
def weights (e k : Fin 128) : EReal := (m ((c : Thread nD τ).loc main_arg1) : Vec Ideal S128x128 .f32) (ix2 e k)

/-- The documents' keys. -/
def keys (d : Fin 100000) (k : Fin 128) : EReal := (m ((c : Thread nD τ).loc main_arg2) : Vec Ideal S100000x128 .f32) (ix2 d k)

/-- The scores of one query row against the documents. -/
def scores (r : Fin 4096) : ℕ → EReal := score (queryRow m c r) (weights m c) (keys m c)

/-- The query row at row `a` of a point's block. -/
def rowAt (t : Fin cfg0.N) (a : Fin 256) : Fin 4096 :=
  ⟨256 * (t.val / 49) + a.val, by have := point_lt t; have := a.isLt; omega⟩

/-- The projected queries of a point's tile. -/
def Projected (t : Fin cfg0.N) (pq : Vec Ideal S256x128 .f32) : Prop :=
  ∀ (a : Fin 256) (e : Fin 128), pq (ix2 a e) = projected (queryRow m c (rowAt t a)) (weights m c) e

/-- Two buffers hold, per row, the leaders of the documents of corpus tiles `0 … t % 49`: scores and document numbers. -/
def Led (t : Fin cfg0.N) (vals : Vec Ideal S256x16 .f32) (ids : Vec Ideal S256x16 .i32) : Prop :=
  ∀ a : Fin 256, ∃ σ : Fin 16 → ℕ, Leaders (scores m c (rowAt t a)) (min (2048 * (t.val % 49 + 1)) 100000) σ
    ∧ ∀ j : Fin 16, vals (ix2 a j) = scores m c (rowAt t a) (σ j) ∧ ids (ix2 a j) = BitVec.ofNat 32 (σ j)

/-- The row a point's rounds start from holds the carried values and the tile's scores. -/
theorem start_row (t : Fin cfg0.N) (pq : Vec Ideal S256x128 .f32) (hpq : Projected m c t pq) (v : Vec Ideal S256x16 .f32)
    (a : Fin 256) (p : Fin 2064) :
    k0_pay7 (F := Ideal) (grid0.coords t) pq (iblk m c 2 t) v (ix2 a p)
      = rowOf (scores m c (rowAt t a)) (t.val % 49) (fun j => v (ix2 a j)) p := by
  refine (row_apply (grid0.coords t) pq (iblk m c 2 t) v a p).trans ?_
  rw [coord_corpus]
  unfold rowOf
  by_cases h : p.val < 16
  · simp only [dif_pos h]
  · simp only [dif_neg h]
    by_cases hl : 2048 * (t.val % 49) + (p.val - 16) < 100000
    · simp only [if_pos hl]
      refine Eq.trans ?_ (score_of_lt _ _ _ _ hl).symm
      refine Finset.sum_congr rfl fun e _ => ?_
      rw [hpq a e]
      exact congrArg _ (key_apply m c t ⟨p.val - 16, by have := p.isLt; omega⟩ e hl)
    · simp only [if_neg hl]

/-- The documents listed beside it. -/
theorem start_docs (t : Fin cfg0.N) (w : Vec Ideal S256x16 .i32) (a : Fin 256) (σ : Fin 16 → ℕ)
    (hw : ∀ j : Fin 16, w (ix2 a j) = BitVec.ofNat 32 (σ j)) (p : Fin 2064) :
    k0_pay8 (F := Ideal) (grid0.coords t) w (ix2 a p) = BitVec.ofNat 32 (docOf (t.val % 49) σ p) := by
  refine (docs_apply (grid0.coords t) w a p).trans ?_
  rw [coord_corpus]
  unfold docOf
  by_cases h : p.val < 16
  · simp only [dif_pos h]; exact hw _
  · simp only [dif_neg h]

theorem docOf_small (t : Fin cfg0.N) (σ : Fin 16 → ℕ) (hσ : ∀ j, σ j < 100000) (p : Fin 2064) :
    (BitVec.ofNat 32 (docOf (t.val % 49) σ p)).toNat < 2 ^ 30 := by
  have hp := p.isLt
  rw [BitVec.toNat_ofNat]
  refine lt_of_le_of_lt (Nat.mod_le _ _) ?_
  unfold docOf
  by_cases h : p.val < 16
  · rw [dif_pos h]; have := hσ ⟨p.val, h⟩; omega
  · rw [dif_neg h]; omega

theorem carried_vals_zero (a : Fin 256) (j : Fin 16) : (k0_pay4 (F := Ideal)) (ix2 a j) = (⊥ : EReal) := by
  unfold k0_pay4
  rw [shapeCast_self]
  exact negInf_eq

theorem carried_docs_zero (a : Fin 256) (j : Fin 16) : k0_pay5 (ix2 a j) = BitVec.ofNat 32 0 := by
  unfold k0_pay5
  rw [shapeCast_self]
  rfl

variable (hs : ∀ (r : Fin 4096) (d : ℕ), d < 100000 → scores m c r d ≠ ⊥)

include hs

/-- The first corpus tile's rounds leave the leaders of its documents. -/
theorem led_first (t : Fin cfg0.N) (h0 : t.val % 49 = 0) (pq : Vec Ideal S256x128 .f32) (hpq : Projected m c t pq) :
    Led m c t (newVals (k0_pay7 (F := Ideal) (grid0.coords t) pq (iblk m c 2 t) (k0_pay4 (F := Ideal))))
      (newDocs (k0_pay8 (F := Ideal) (grid0.coords t) k0_pay5) (k0_pay7 (F := Ideal) (grid0.coords t) pq (iblk m c 2 t) (k0_pay4 (F := Ideal)))) := by
  intro a
  have hd := start_docs (t := t) (w := k0_pay5) a (fun _ => 0) (fun j => carried_docs_zero a j)
  obtain ⟨q, hq, hv, hi⟩ := exists_rounds (k0_pay7 (F := Ideal) (grid0.coords t) pq (iblk m c 2 t) (k0_pay4 (F := Ideal)))
    (k0_pay8 (F := Ideal) (grid0.coords t) k0_pay5) a fun p => by
      rw [hd p]; exact docOf_small t _ (fun _ => by omega) p
  obtain ⟨hL, hA⟩ := first_tile hq (scores m c (rowAt t a)) (hs (rowAt t a)) (fun _ => 0) fun p => by
    refine (start_row m c t pq hpq (k0_pay4 (F := Ideal)) a p).trans ?_
    rw [h0]
    exact congrArg (fun v => rowOf (scores m c (rowAt t a)) 0 v p) (funext fun j => carried_vals_zero a j)
  refine ⟨fun j => docOf 0 (fun _ => 0) (q j), ?_, fun j => ⟨(hv j).trans (hA j), (hi j).trans ?_⟩⟩
  · rw [h0]; exact hL
  · have := hd (q j.val)
    rw [h0] at this
    exact this

/-- A later corpus tile's rounds extend the leaders by its documents. -/
theorem led_next (t t' : Fin cfg0.N) (ht : t'.val + 1 = t.val) (h0 : ¬t.val % 49 = 0) (pq : Vec Ideal S256x128 .f32)
    (hpq : Projected m c t pq) (v : Vec Ideal S256x16 .f32) (w : Vec Ideal S256x16 .i32) (hl : Led m c t' v w) :
    Led m c t (newVals (k0_pay7 (F := Ideal) (grid0.coords t) pq (iblk m c 2 t) v))
      (newDocs (k0_pay8 (F := Ideal) (grid0.coords t) w) (k0_pay7 (F := Ideal) (grid0.coords t) pq (iblk m c 2 t) v)) := by
  intro a
  have hr : rowAt t' a = rowAt t a := Fin.ext (by show 256 * (t'.val / 49) + a.val = 256 * (t.val / 49) + a.val; omega)
  obtain ⟨σ, hσ, hvw⟩ := hl a
  rw [hr] at hσ hvw
  have hn : min (2048 * (t'.val % 49 + 1)) 100000 = 2048 * (t.val % 49) := by omega
  rw [hn] at hσ
  have hd := start_docs (t := t) (w := w) a σ (fun j => (hvw j).2)
  have hc : 2048 * (t.val % 49) ≤ 100000 := by omega
  obtain ⟨q, hq, hv, hi⟩ := exists_rounds (k0_pay7 (F := Ideal) (grid0.coords t) pq (iblk m c 2 t) v)
    (k0_pay8 (F := Ideal) (grid0.coords t) w) a fun p => by
      rw [hd p]; exact docOf_small t _ (fun j => lt_of_lt_of_le (hσ.lt j) hc) p
  obtain ⟨hL, hA⟩ := next_tile hq (scores m c (rowAt t a)) (hs (rowAt t a)) (t.val % 49) hc σ hσ fun p => by
    refine (start_row m c t pq hpq v a p).trans ?_
    exact congrArg (fun v => rowOf (scores m c (rowAt t a)) (t.val % 49) v p) (funext fun j => (hvw j).1)
  exact ⟨fun j => docOf (t.val % 49) σ (q j), hL, fun j => ⟨(hv j).trans (hA j), (hi j).trans (hd (q j.val))⟩⟩

omit hs in
/-- The projection a first corpus tile computes. -/
theorem projected_first (t : Fin cfg0.N) : Projected m c t (k0_pay3 (F := Ideal) (iblk m c 0 t) (iblk m c 1 t)) := by
  intro a e
  refine (proj_apply (iblk m c 0 t) (iblk m c 1 t) a e).trans ?_
  have h1 : (fun k => (iblk m c 0 t : Vec Ideal S256x128 .f32) (ix2 a k)) = queryRow m c (rowAt t a) :=
    funext fun k => query_apply m c t a k
  have h2 : (fun e k => (iblk m c 1 t : Vec Ideal S128x128 .f32) (ix2 e k)) = weights m c :=
    funext fun e => funext fun k => weight_apply m c t e k
  exact congrArg₂ (fun q W => projected q W e) h1 h2

omit hs in
/-- The projection stays good along a query tile. -/
theorem projected_next (t t' : Fin cfg0.N) (ht : t'.val + 1 = t.val) (h0 : ¬t.val % 49 = 0) (pq : Vec Ideal S256x128 .f32)
    (h : Projected m c t' pq) : Projected m c t pq := by
  intro a e
  have hr : rowAt t' a = rowAt t a := Fin.ext (by show 256 * (t'.val / 49) + a.val = 256 * (t.val / 49) + a.val; omega)
  rw [← hr]
  exact h a e

/-- After every point the carried buffers hold the projected queries and the leaders. -/
theorem carried : ∀ (n : ℕ) (hn : n < cfg0.N), Projected m c ⟨n, hn⟩ (outsAt0 m c n hn).2.2.1
    ∧ Led m c ⟨n, hn⟩ (outsAt0 m c n hn).2.2.2.1 (outsAt0 m c n hn).2.2.2.2 := by
  intro n
  induction n with
  | zero =>
    intro hn
    have e := outsAt0_A m c ⟨0, hn⟩ (Nat.zero_mod _) (by show ¬0 % 49 = 48; decide)
    have e' : outsAt0 m c 0 hn = _ := e
    rw [e']
    dsimp only
    rw [first_proj, first_vals, first_docs]
    exact ⟨projected_first m c _, led_first m c hs _ (Nat.zero_mod _) _ (projected_first m c _)⟩
  | succ n ih =>
    intro hn
    obtain ⟨hp, hl⟩ := ih (Nat.lt_of_succ_lt hn)
    by_cases h0 : (n + 1) % 49 = 0
    · have e := outsAt0_A m c ⟨n + 1, hn⟩ h0 (by show ¬(n + 1) % 49 = 48; omega)
      have e' : outsAt0 m c (n + 1) hn = _ := e
      rw [e']
      dsimp only
      rw [first_proj, first_vals, first_docs]
      exact ⟨projected_first m c _, led_first m c hs _ h0 _ (projected_first m c _)⟩
    · have hp' := projected_next m c ⟨n + 1, hn⟩ ⟨n, Nat.lt_of_succ_lt hn⟩ rfl h0 _ hp
      by_cases h1 : (n + 1) % 49 = 48
      · have e := outsAt0_C m c ⟨n + 1, hn⟩ h0 h1
        have e' : outsAt0 m c (n + 1) hn = _ := e
        rw [e']
        dsimp only
        rw [last_vals, last_docs]
        exact ⟨hp', led_next m c hs ⟨n + 1, hn⟩ ⟨n, Nat.lt_of_succ_lt hn⟩ rfl h0 _ hp' _ _ hl⟩
      · have e := outsAt0_B m c ⟨n + 1, hn⟩ h0 h1
        have e' : outsAt0 m c (n + 1) hn = _ := e
        rw [e']
        dsimp only
        rw [mid_vals, mid_docs]
        exact ⟨hp', led_next m c hs ⟨n + 1, hn⟩ ⟨n, Nat.lt_of_succ_lt hn⟩ rfl h0 _ hp' _ _ hl⟩

/-- A last corpus tile hands out the leaders of all the documents. -/
theorem emitted (t : Fin cfg0.N) (h1 : t.val % 49 = 48) : Led m c t (outsAt0 m c t.val t.isLt).2.1 (outsAt0 m c t.val t.isLt).1 := by
  have h0 : ¬t.val % 49 = 0 := by omega
  have ht : t.val - 1 + 1 = t.val := by omega
  obtain ⟨hp, hl⟩ := carried m c hs (t.val - 1) (Nat.lt_of_le_of_lt (Nat.sub_le _ _) t.isLt)
  rw [outsAt0_C m c t h0 h1]
  dsimp only
  rw [last_out_vals, last_out_docs]
  exact led_next m c hs t ⟨t.val - 1, Nat.lt_of_le_of_lt (Nat.sub_le _ _) t.isLt⟩ ht h0 _
    (projected_next m c t ⟨t.val - 1, Nat.lt_of_le_of_lt (Nat.sub_le _ _) t.isLt⟩ ht h0 _ hp) _ _ hl

end Cert.KernelIdeal.TopK
-- ==== Proof.TopK.Reference.lean ====
/-
  The reference's selection, row by row: a stable descending sort of a row of scores, cut to its first sixteen.

  A stable sort by score is the sort by score and then position (`stableSort_by_position`), so its first sixteen places
  are the sixteen leaders of the row in the sense of `Cert.Select.Leaders`, whichever way those were found.
-/
module

public import proofs.«01_k».proof.Proof.TopK.Select
public import proofs.«01_k».proof.Proof.Gen.ReferenceIdeal
public import Idealize.ShloMosaic.Lib.SortPrefix
public import Idealize.ShloMosaic.Lib.ValueIdx
public import Idealize.ShloMosaic.Lib.Pipeline.Value
public import Idealize.ShloMosaic.PureOps.Ideal.Laws

@[expose] public section

noncomputable section

namespace Cert.ReferenceIdeal.TopK

open Idealize.ShloMosaic Idealize.ShloMosaic.ValueIdx
open Cert.ReferenceIdeal Cert.ReferenceIdeal.Gen
open Cert.Select

/-- A stable sort asks its comparison only of a later member against an earlier one: two comparisons that agree there
    give the same sort. -/
theorem stableSort_by_position {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- A larger score first. -/
def above (a b : EReal) : Bool := decide (b < a)

/-- The first sixteen places of the stable descending sort of `n` scores are the leaders. -/
theorem sortedFrom_leaders {n : ℕ} (hn : 16 ≤ n) (key : Fin n → EReal) (R : Fin n → Fin n → Bool)
    (hR : ∀ k k', R k k' = above (key k) (key k')) (s : ℕ → EReal) (hs : ∀ p : Fin n, s p.val = key p)
    (σ : Fin 16 → ℕ) (h : Leaders s n σ) (i : Fin 16) : sortedFrom R (i.castLE hn) = ⟨σ i, h.lt i⟩ := by
  classical
  let B : Fin n → Fin n → Bool := fun k k' => above (key k) (key k') || (decide (key k = key k') && decide (k < k'))
  have hB : StrictTotalBefore B := StrictTotalBefore.of_key_then_position above key
    (fun a => decide_eq_false (lt_irrefl a))
    (fun a b c hab hbc => decide_eq_true ((of_decide_eq_true hbc).trans (of_decide_eq_true hab)))
    (fun a b => by
      rcases lt_trichotomy a b with hl | he | hl
      · exact .inr (.inr (decide_eq_true hl))
      · exact .inr (.inl he)
      · exact .inl (decide_eq_true hl))
  have hsort : sortPositions n R = sortPositions n B := by
    refine stableSort_by_position R B _ ?_
    have hp : (List.finRange n).Pairwise fun a b => a < b := List.pairwise_lt_finRange n
    refine hp.imp fun {a b} hab => ?_
    show R b a = (above (key b) (key a) || (decide (key b = key a) && decide (b < a)))
    rw [hR, decide_eq_false (not_lt.2 hab.le), Bool.and_false, Bool.or_false]
  have hget : sortedFrom R (i.castLE hn) = sortedFrom B (i.castLE hn) := by
    unfold sortedFrom
    rw [List.get_of_eq hsort]
    rfl
  have hahead : ∀ p p' : Fin n, Ahead s p.val p'.val → B p' p = false := by
    intro p p' hpp
    show (above (key p') (key p) || (decide (key p' = key p) && decide (p' < p))) = false
    unfold Ahead at hpp
    rw [hs, hs] at hpp
    rcases hpp with hl | ⟨he, hl⟩
    · rw [above, decide_eq_false (not_lt.2 hl.le), decide_eq_false hl.ne]; rfl
    · rw [above, decide_eq_false (by rw [he]; exact lt_irrefl _), decide_eq_false (not_lt.2 (show p ≤ p' from Nat.le_of_lt hl)),
        Bool.and_false, Bool.or_false]
  rw [hget]
  refine hB.sortedFrom_eq_of_prefix hn (fun j => ⟨σ j, h.lt j⟩) (fun a b hab => h.injective (Fin.val_eq_of_eq hab)) ?_ ?_ i
  · exact fun a b hab => hahead _ _ (h.asc a b hab)
  · exact fun a p hp => hahead _ _ (h.dom p.val p.isLt (fun j hj => hp j (Fin.ext hj)) a)

/-- A selection read at an element: the operand's fiber through it, sorted, at the element's place. -/
theorem topK_apply {S t : Shape} {α : Type} (d : ℕ) (hd : d < S.rank) (gt : α → α → BitVec 1) (x : S.Idx → α)
    (h : S.Slices (fun _ => 0) t) (j : t.Idx) (k : S.Idx) (hk : ∀ a : Fin S.rank, (k a).val = (j (a.cast h.1.symm)).val)
    (π : Fin (S.size ⟨d, hd⟩))
    (hπ : sortedFrom (fun p p' => gt (x (k.along ⟨d, hd⟩ p)) (x (k.along ⟨d, hd⟩ p')) == 1#1) (k ⟨d, hd⟩) = π) :
    (Host.topK t d gt x h).1 j = x (k.along ⟨d, hd⟩ π)
      ∧ (Host.topK t d gt x h).2 j = BitVec.ofNat 32 ((k.along ⟨d, hd⟩ π) ⟨d, hd⟩).val := by
  subst hπ
  unfold Host.topK Host.sort2
  simp only [dif_pos hd]
  constructor
  · exact extractStridedSlice_apply _ _ h j k fun a => by rw [hk a]; exact (Nat.zero_add _).symm
  · refine (extractStridedSlice_apply _ _ h j k fun a => by rw [hk a]; exact (Nat.zero_add _).symm).trans ?_
    rfl

/-- Stepping along a row of a matrix. -/
theorem along_row {n w : ℕ} (r : Fin n) (j k : Fin w) :
    Shape.Idx.along (s := ⟨2, ![n, w]⟩) (ix2 r j) (⟨1, Nat.lt_succ_self 1⟩ : Fin 2) k = ix2 r k := by
  funext c
  match c with
  | ⟨0, _⟩ => rfl
  | ⟨1, _⟩ => rfl

/-- Row `r` of a selection of sixteen along the rows of a matrix of scores: the scores of the row's leaders, and their
    positions. -/
theorem topK_matrix {n w : ℕ} (hw : 16 ≤ w) (x : FVec Ideal ⟨2, ![n, w]⟩ .f32)
    (hsl : Shape.Slices ⟨2, ![n, w]⟩ (fun _ => 0) ⟨2, ![n, 16]⟩) (r : Fin n) (s : ℕ → EReal)
    (hs : ∀ p : Fin w, s p.val = x (ix2 r p)) (σ : Fin 16 → ℕ) (h : Leaders s w σ) (j : Fin 16) :
    (Host.topK ⟨2, ![n, 16]⟩ 1 (FloatOps.cmpfTotal .gt) x hsl).1 (ix2 r j) = s (σ j)
      ∧ (Host.topK ⟨2, ![n, 16]⟩ 1 (FloatOps.cmpfTotal .gt) x hsl).2 (ix2 r j) = BitVec.ofNat 32 (σ j) := by
  have hπ : sortedFrom (fun k k' : Fin w =>
      (FloatOps.cmpfTotal .gt (x (Shape.Idx.along (s := ⟨2, ![n, w]⟩) (ix2 r (j.castLE hw)) (⟨1, Nat.lt_succ_self 1⟩ : Fin 2) k))
        (x (Shape.Idx.along (s := ⟨2, ![n, w]⟩) (ix2 r (j.castLE hw)) (⟨1, Nat.lt_succ_self 1⟩ : Fin 2) k')) == 1#1)) (j.castLE hw)
      = ⟨σ j, h.lt j⟩ := by
    refine sortedFrom_leaders hw (fun p => x (ix2 r p)) _ (fun k k' => ?_) s hs σ h j
    rw [along_row, along_row]
    show (BitVec.ofBool (above (x (ix2 r k)) (x (ix2 r k'))) == 1#1) = _
    generalize above (x (ix2 r k)) (x (ix2 r k')) = b
    cases b <;> rfl
  have e := topK_apply (S := ⟨2, ![n, w]⟩) (t := ⟨2, ![n, 16]⟩) 1 (Nat.lt_succ_self 1) (FloatOps.cmpfTotal .gt) x
    hsl (ix2 r j) (ix2 r (j.castLE hw)) (fun a => by
      match a with
      | ⟨0, _⟩ => rfl
      | ⟨1, _⟩ => rfl) (⟨σ j, h.lt j⟩ : Fin w) hπ
  refine ⟨e.1.trans ((congrArg x (along_row r _ _)).trans (hs _).symm), e.2.trans ?_⟩
  exact congrArg (fun k : (⟨2, ![n, w]⟩ : Shape).Idx => BitVec.ofNat 32 (k (⟨1, Nat.lt_succ_self 1⟩ : Fin 2)).val)
    (along_row r (j.castLE hw) ⟨σ j, h.lt j⟩)

/-- Row `r` of the reference's selection: the scores of the row's leaders, and their positions. -/
theorem topK_row (x : FVec Ideal S4096x100000 .f32) (r : Fin 4096) (s : ℕ → EReal)
    (hs : ∀ p : Fin 100000, s p.val = x (ix2 r p)) (σ : Fin 16 → ℕ) (h : Leaders s 100000 σ) (j : Fin 16) :
    (Host.topK S4096x16 1 (FloatOps.cmpfTotal .gt) x sliceFits_S4096x100000_S4096x16).1 (ix2 r j) = s (σ j)
      ∧ (Host.topK S4096x16 1 (FloatOps.cmpfTotal .gt) x sliceFits_S4096x100000_S4096x16).2 (ix2 r j)
          = BitVec.ofNat 32 (σ j) :=
  topK_matrix (by norm_num) x sliceFits_S4096x100000_S4096x16 r s hs σ h j

end Cert.ReferenceIdeal.TopK
-- ==== Proof.TopK.Lookup.lean ====
/-
  The host lines after the region: document numbers looked up in the table of document ids, as one function of the two
  arrays. The reference's last lines are the same function.
-/
module

public import proofs.«01_k».proof.Proof.Gen.KernelIdeal.Frame
public import proofs.«01_k».proof.Proof.Gen.ReferenceIdeal.Read
public import Idealize.ShloMosaic.Lib.StableHlo.Run

@[expose] public section

noncomputable section

namespace Cert.KernelIdeal.TopK

open Idealize.ShloMosaic Idealize.ShloMosaic.TcCoe Idealize.SL Idealize.SL.Sem
open Cert.KernelIdeal Cert.KernelIdeal.Gen

/-- Positions counted from the end when negative. -/
def wrapped (ids : IVec S4096x16 32) : IVec S4096x16x1 32 :=
  broadcastInDim S4096x16x1 ![0, 1] bcast_S4096x16_S4096x16x1_0_1
    (select (cmpi .slt ids (broadcastInDim S4096x16 ![] bcast_S_S4096x16 (constantI S_ 32 0#32)))
      (addi ids (broadcastInDim S4096x16 ![] bcast_S_S4096x16 (constantI S_ 32 100000#32))) ids)

/-- Entries of a table at the given positions, the least word where a position is out of range. -/
def lookup (ids : IVec S4096x16 32) (docs : IVec S100000 32) : IVec S4096x16 32 :=
  select
    (Host.reduce IntOp.andi
      (andi (cmpi .sge (wrapped ids) (broadcastInDim S4096x16x1 ![] bcast_S_S4096x16x1 (constantI S_ 32 0#32)))
        (cmpi .sle (wrapped ids)
          (broadcastInDim S4096x16x1 ![0, 1, 2] bcast_S1x1x1_S4096x16x1_0_1_2
            (broadcastInDim S1x1x1 ![2] bcast_S1_S1x1x1_2 (constantI S1 32 99999#32)))))
      (constantI S_ 1 1#1) reducesTo_S4096x16x1_S4096x16_d2 h_S_)
    (Host.gather gather_S100000_S4096x16x1_S4096x16_n_0_n_n_0_2_1 docs (wrapped ids))
    (broadcastInDim S4096x16 ![] bcast_S_S4096x16 (constantI S_ 32 2147483648#32))

variable {F : FTy → Type} [FloatOps F]

/-- From any contents the host lines leave the lookup of the emitted document numbers. -/
theorem after_tail (V : Valuation τ sig (Elt F)) :
    StableHlo.after (hostOps1 (F := F)) V (Proc.devRef .tc main_v2)
      = lookup (V (Proc.devRef .tc main_v1_0)) (V (Proc.devRef .tc main_arg3)) := by
  simp only [hostOps1, StableHlo.TRef.binary, StableHlo.TRef.nullary, StableHlo.TRef.ternary, StableHlo.TRef.unary,
    StableHlo.TRef.toBuf, StableHlo.TRef.ofBuf, cast_eq]
  after_results
  rfl

variable (m : (ℓ : Loc nD τ sig) → Buf (Elt F) ℓ)

/-- So the program's first result is the lookup of the region's first array in the launched table. -/
theorem tail_result (dats : (p : Fin _) → (c : Dev nD) → Pipeline.Dat τ (Elt F) Unit ℕ (UR sig nD τ) ℕ (cfgs p) c) (c : Dev nD) :
    Pipeline.afterTail₀ cfgs dats 0 (V0 m) [hostOps1] c main_v2
      = lookup ((dats 0 c).arrAt 3 cfg0.N) (m ((c : Thread nD τ).loc main_arg3)) := by
  unfold Pipeline.afterTail₀
  rw [List.flatten_cons, List.flatten_nil, List.append_nil]
  refine (after_tail _).trans ?_
  have h3 : Pipeline.withArrays spec0 c (V0 m c) (fun w => (dats 0 c).arrAt w cfg0.N) (Proc.devRef .tc main_v1_0)
      = (dats 0 c).arrAt 3 cfg0.N :=
    Pipeline.withArrays_arr spec0 (by decide) c (V0 m c) _ 3
  have ha : Pipeline.withArrays spec0 c (V0 m c) (fun w => (dats 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  exact congrArg₂ lookup h3 ha

/-- The reference's first result is the same lookup, of the positions it selects. -/
theorem reference_lookup (m' : (ℓ : Loc Cert.ReferenceIdeal.nD Cert.ReferenceIdeal.τ Cert.ReferenceIdeal.sig) → Buf (Elt F) ℓ)
    (c : Dev Cert.ReferenceIdeal.nD) :
    Cert.ReferenceIdeal.Value.res_main_v4 m' c
      = lookup
          (Host.topK S4096x16 1 (FloatOps.cmpfTotal .gt)
            (Cert.ReferenceIdeal.Read.val_main_v3 (F := F)
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2)))
            Cert.ReferenceIdeal.Gen.sliceFits_S4096x100000_S4096x16).2
          (m' ((c.tc : Thread Cert.ReferenceIdeal.nD Cert.ReferenceIdeal.τ).loc Cert.ReferenceIdeal.main_arg3)) := by
  unfold Cert.ReferenceIdeal.Value.res_main_v4 lookup wrapped
  rfl

end Cert.KernelIdeal.TopK
-- ==== Proof.TopK.Final.lean ====
/-
  The arrays the region ends with, and the run: the kernel's two results are the reference's.
-/
module

public import proofs.«01_k».proof.Proof.TopK.Scan
public import proofs.«01_k».proof.Proof.TopK.Reference
public import proofs.«01_k».proof.Proof.TopK.Lookup
public import Idealize.ShloMosaic.Lib.Pipeline.ValueKit.Geometry

@[expose] public section

noncomputable section

namespace Cert.KernelIdeal.TopK

open Idealize.ShloMosaic Idealize.ShloMosaic.TcCoe Idealize.SL.Sem Idealize.ShloMosaic.ValueIdx
open Cert.KernelIdeal Cert.KernelIdeal.Gen Cert.Select

/-- The reference's score matrix, of three arrays. -/
abbrev scoreMatrix (q : Vec Ideal S4096x128 .f32) (W : Vec Ideal S128x128 .f32) (K : Vec Ideal S100000x128 .f32) :
    FVec Ideal Cert.ReferenceIdeal.S4096x100000 .f32 :=
  Cert.ReferenceIdeal.Read.val_main_v3 (F := Ideal) q W K

/-- The sixteen best scores of each row, as the reference selects them. -/
def bestScores (q : Vec Ideal S4096x128 .f32) (W : Vec Ideal S128x128 .f32) (K : Vec Ideal S100000x128 .f32) :
    Vec Ideal S4096x16 .f32 :=
  (Host.topK S4096x16 1 (FloatOps.cmpfTotal .gt) (scoreMatrix q W K) Cert.ReferenceIdeal.Gen.sliceFits_S4096x100000_S4096x16).1

/-- Their positions. -/
def bestDocs (q : Vec Ideal S4096x128 .f32) (W : Vec Ideal S128x128 .f32) (K : Vec Ideal S100000x128 .f32) :
    Vec Ideal S4096x16 .i32 :=
  (Host.topK S4096x16 1 (FloatOps.cmpfTotal .gt) (scoreMatrix q W K) Cert.ReferenceIdeal.Gen.sliceFits_S4096x100000_S4096x16).2

/-- An element of the score matrix. -/
theorem scoreMatrix_apply (q : Vec Ideal S4096x128 .f32) (W : Vec Ideal S128x128 .f32) (K : Vec Ideal S100000x128 .f32)
    (r : Fin 4096) (d : Fin 100000) :
    scoreMatrix q W K (ix2 r d)
      = score (fun k => q (ix2 r k)) (fun e k => W (ix2 e k)) (fun d k => K (ix2 d k)) d.val := by
  refine (Cert.ReferenceIdeal.Read.val_main_v3_apply q W K (ix2 r d)).trans ?_
  refine Eq.trans (Finset.sum_congr rfl fun e _ => ?_) (score_of_lt _ _ _ _ d.isLt).symm
  refine congrArg₂ (fun x y : EReal => x * y) ?_ ?_
  · refine (Cert.ReferenceIdeal.Read.val_main_v1_apply q W _).trans (Finset.sum_congr rfl fun k _ => ?_)
    refine congrArg₂ (fun x y : EReal => x * y) (congrArg q ?_) ((Cert.ReferenceIdeal.Read.val_main_v0_apply W _).trans (congrArg W ?_))
    · funext b
      match b with
      | ⟨0, _⟩ => rfl
      | ⟨1, _⟩ => rfl
    · funext b
      match b with
      | ⟨0, _⟩ => rfl
      | ⟨1, _⟩ => rfl
  · refine (Cert.ReferenceIdeal.Read.val_main_v2_apply K _).trans (congrArg K ?_)
    funext b
    match b with
    | ⟨0, _⟩ => rfl
    | ⟨1, _⟩ => rfl

variable (m : (ℓ : Loc nD τ sig) → Buf (Elt Ideal) ℓ) (c : Dev nD)

/-- The reference's selections over the kernel's arguments. -/
def wantVals : Vec Ideal S4096x16 .f32 :=
  bestScores (m ((c : Thread nD τ).loc main_arg0)) (m ((c : Thread nD τ).loc main_arg1)) (m ((c : Thread nD τ).loc main_arg2))

def wantDocs : Vec Ideal S4096x16 .i32 :=
  bestDocs (m ((c : Thread nD τ).loc main_arg0)) (m ((c : Thread nD τ).loc main_arg1)) (m ((c : Thread nD τ).loc main_arg2))

/-- A row of the reference's selections from any sixteen leaders of the row. -/
theorem want_row (r : Fin 4096) (σ : Fin 16 → ℕ) (h : Leaders (scores m c r) 100000 σ) (j : Fin 16) :
    wantVals m c (ix2 r j) = scores m c r (σ j) ∧ wantDocs m c (ix2 r j) = BitVec.ofNat 32 (σ j) :=
  Cert.ReferenceIdeal.TopK.topK_row _ r (scores m c r) (fun p => (scoreMatrix_apply _ _ _ r p).symm) σ h j

variable (hs : ∀ (r : Fin 4096) (d : ℕ), d < 100000 → scores m c r d ≠ ⊥)

include hs

/-- What a last corpus tile hands out is its rows of the reference's selections. -/
theorem emitted_apply (t : Fin cfg0.N) (h1 : t.val % 49 = 48) (a : Fin 256) (j : Fin 16) :
    (outsAt0 m c t.val t.isLt).2.1 (ix2 a j) = wantVals m c (ix2 (rowAt t a) j)
      ∧ (outsAt0 m c t.val t.isLt).1 (ix2 a j) = wantDocs m c (ix2 (rowAt t a) j) := by
  obtain ⟨σ, hσ, hv⟩ := emitted m c hs t h1 a
  rw [show min (2048 * (t.val % 49 + 1)) 100000 = 100000 by omega] at hσ
  obtain ⟨e1, e2⟩ := want_row m c (rowAt t a) σ hσ j
  exact ⟨(hv j).1.trans e1.symm, (hv j).2.trans e2.symm⟩

/-- The emitted document numbers, as an array. -/
theorem final_docs : (dats m 0 c).arrAt 3 cfg0.N = wantDocs m c := by
  refine (dats m 0 c).arrAt_eq_of_covers 3 _ (by decide +kernel) fun t hf y => ?_
  have h1 := (flush0_3 t).mp hf
  show (dats m 0 c).after 3 t y = wantDocs m c (((cfg0.win 3).blk t).view.emb y)
  rw [after0_3]
  have hy : y = ix2 (y 0) (y 1) := eq_ix2 y
  refine Eq.trans (congrArg (outsAt0 m c t.val t.isLt).1 hy) ((emitted_apply m c hs t h1 (y 0) (y 1)).2.trans (congrArg (wantDocs m c) ?_))
  funext b
  apply Fin.ext
  match b with
  | ⟨0, _⟩ =>
    show 256 * (t.val / 49) + (y 0).val = (BitVec.ofNat 32 (grid0.coords t 0).val).toNat * 256 + 1 * (y 0).val
    rw [word_query]; omega
  | ⟨1, _⟩ =>
    show (y 1).val = (0#32).toNat * 16 + 1 * (y 1).val
    rw [show (0#32).toNat = 0 from rfl]; omega

/-- The emitted scores, as an array. -/
theorem final_vals : (dats m 0 c).arrAt 4 cfg0.N = wantVals m c := by
  refine (dats m 0 c).arrAt_eq_of_covers 4 _ (by decide +kernel) fun t hf y => ?_
  have h1 := (flush0_4 t).mp hf
  show (dats m 0 c).after 4 t y = wantVals m c (((cfg0.win 4).blk t).view.emb y)
  rw [after0_4]
  have hy : y = ix2 (y 0) (y 1) := eq_ix2 y
  refine Eq.trans (congrArg (outsAt0 m c t.val t.isLt).2.1 hy) ((emitted_apply m c hs t h1 (y 0) (y 1)).1.trans (congrArg (wantVals m c) ?_))
  funext b
  apply Fin.ext
  match b with
  | ⟨0, _⟩ =>
    show 256 * (t.val / 49) + (y 0).val = (BitVec.ofNat 32 (grid0.coords t 0).val).toNat * 256 + 1 * (y 0).val
    rw [word_query]; omega
  | ⟨1, _⟩ =>
    show (y 1).val = (0#32).toNat * 16 + 1 * (y 1).val
    rw [show (0#32).toNat = 0 from rfl]; omega

omit hs in
/-- The kernel's run, read: its two results are the reference's functions of the arguments, which end unchanged. -/
theorem run (ρ : Dev nD → PrngReg) (hs : ∀ (c : Dev nD) (r : Fin 4096) (d : ℕ), d < 100000 → scores m c r d ≠ ⊥) :
    θ_run defs (onTc (τ := τ) (main (F := Ideal))) ⟨m, fun _ => 0, ρ⟩ fun r => ∀ c : Dev nD,
      r.2.mem ((c.tc : Thread nD τ).loc main_v2) = lookup (wantDocs m c) (m ((c.tc : Thread nD τ).loc main_arg3))
      ∧ r.2.mem ((c.tc : Thread nD τ).loc main_v1_1) = wantVals m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans
        ((tail_result m (dats m) c).trans (congrArg (fun d => lookup d (m ((c.tc : Thread nD τ).loc main_arg3))) (final_docs m c (hs c)))),
      ((h c).1 4).trans (final_vals m c (hs c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.TopK
-- ==== Proof.TopK.Finite.lean ====
/-
  The precondition read: every entry of the three float arguments is a real number, so every score is above `⊥`.
-/
module

public import proofs.«01_k».proof.Defs
public import proofs.«01_k».proof.Proof.TopK.Scan

@[expose] public section

noncomputable section

namespace Cert.KernelIdeal.TopK

open Idealize.ShloMosaic Idealize.ShloMosaic.TcCoe Idealize.SL.Sem Idealize.ShloMosaic.ValueIdx
open Cert.KernelIdeal Cert.KernelIdeal.Gen Cert.Select

/-- The shape relations the precondition's operations state. -/
theorem preFacts : Cert.Pre_finite.Facts where
  bcast_S_S4096x128 := by decide
  bcast_S_S128x128 := by decide
  bcast_S_S100000x128 := by decide

/-- The word of plus infinity. -/
theorem posInf_eq : (FloatOps.ofBits FTy.f32 0x7F800000#32 : Ideal .f32) = (⊤ : EReal) := by
  show Ideal.ieee 8 23 (0x7F800000#32) = ⊤
  simp [Ideal.ieee]

/-- A value that compares above minus infinity and below plus infinity is a real number. -/
theorem isReal_of_cmpf (x : Ideal .f32)
    (h1 : FloatOps.cmpf .ogt x (FloatOps.ofBits FTy.f32 0xFF800000#32 : Ideal .f32) = 1#1)
    (h2 : FloatOps.cmpf .olt x (FloatOps.ofBits FTy.f32 0x7F800000#32 : Ideal .f32) = 1#1) : IsReal x := by
  rw [negInf_eq] at h1
  rw [posInf_eq] at h2
  have h1' : BitVec.ofBool (decide ((⊥ : EReal) < x)) = 1#1 := h1
  have h2' : BitVec.ofBool (decide ((x : EReal) < ⊤)) = 1#1 := h2
  constructor
  · rintro rfl
    rw [decide_eq_false (lt_irrefl _)] at h1'
    exact absurd h1' (by decide)
  · rintro rfl
    rw [decide_eq_false (lt_irrefl _)] at h2'
    exact absurd h2' (by decide)

variable (m : (ℓ : Loc nD τ sig) → Buf (Elt Ideal) ℓ)

/-- Under the precondition every document's score is above `⊥`. -/
theorem scores_ne_bot [hP : Cert.Pre_finite.Facts] (h : Cert.Pre_KernelIdeal_finite m) (c : Dev nD) (r : Fin 4096) (d : ℕ)
    (hd : d < 100000) : scores m c r d ≠ ⊥ := by
  obtain ⟨q1, q2, w1, w2, k1, k2⟩ := h c
  refine score_ne_bot _ _ _ (fun k => ?_) (fun e k => ?_) (fun d k => ?_) d hd
  · exact isReal_of_cmpf _ (congrFun q1 (ix2 r k)) (congrFun q2 (ix2 r k))
  · exact isReal_of_cmpf _ (congrFun w1 (ix2 e k)) (congrFun w2 (ix2 e k))
  · exact isReal_of_cmpf _ (congrFun k1 (ix2 d k)) (congrFun k2 (ix2 d k))

end Cert.KernelIdeal.TopK
-- ==== Proof.lean ====
/-
  The certificate: `theorem Cert.Proof.claim : Cert.Claim`.

  The frames of the kernel and of its idealization are the generated runs; the reference's is read off its own run. The
  value claim is put together here from the modules of `Proof/TopK/`: `Final` reads the kernel's run as the reference's
  selections over the kernel's arguments, `Finite` reads the precondition, and `Lookup` states the last host lines of
  both programs as one function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.TopK.Final
public import proofs.«01_k».proof.Proof.TopK.Finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs, leaves its arguments as they were and every counter at zero: it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The kernel and the reference, from memories that agree on the arguments: both results equal. -/
theorem algebraic : Cert.algebraic_KernelIdeal_ReferenceIdeal_pre_finite (hPre_finite := Cert.KernelIdeal.TopK.preFacts) := by
  intro m g m' g' hpre hargs
  refine ⟨fun c => Cert.KernelIdeal.TopK.lookup (Cert.KernelIdeal.TopK.wantDocs m c)
      (m ((c.tc : Thread Cert.KernelIdeal.nD Cert.KernelIdeal.τ).loc Cert.KernelIdeal.main_arg3)),
    fun c => Cert.KernelIdeal.TopK.wantVals m c,
    Cert.KernelIdeal.TopK.run m g fun c => Cert.KernelIdeal.TopK.scores_ne_bot (hP := Cert.KernelIdeal.TopK.preFacts) m hpre c,
    (θ_run Cert.ReferenceIdeal.defs _ _).mono (fun r h c => ?_) (Cert.ReferenceIdeal.Value.run (F := Ideal) m' g')⟩
  obtain ⟨e0, e1, e2, e3⟩ := hargs c
  refine ⟨(h c).1.trans ((Cert.KernelIdeal.TopK.reference_lookup m' c).trans ?_), (h c).2.1.trans ?_, (h c).2.2⟩
  · rw [e0, e1, e2, e3]; rfl
  · rw [e0, e1, e2]; rfl

/-- Everything the certificate claims. -/
theorem claim : Cert.Claim := ⟨Cert.Kernel.Gen.facts, Cert.KernelIdeal.Gen.facts, Cert.ReferenceIdeal.Gen.facts,
  Cert.KernelIdeal.TopK.preFacts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  algebraic⟩

end Cert.Proof

end
